-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_edges_in_range : Cert.Pre_edges_in_range.Facts) (hPre_finite_and_in_range : Cert.Pre_finite_and_in_range.Facts),
    quiescent_Kernel (hKernel := hKernel) (hPre_edges_in_range := hPre_edges_in_range)
    ∧ quiescent_KernelIdeal (hKernelIdeal := hKernelIdeal) (hPre_edges_in_range := hPre_edges_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_edges_in_range.lean ====
abbrev S4096x16x200 : Shape := ⟨3, ![4096, 16, 200]⟩
abbrev S200x32 : Shape := ⟨2, ![200, 32]⟩
abbrev S32 : Shape := ⟨1, ![32]⟩
abbrev S512x128 : Shape := ⟨2, ![512, 128]⟩
abbrev S128 : Shape := ⟨1, ![128]⟩
abbrev S128x1 : Shape := ⟨2, ![128, 1]⟩
abbrev S1 : Shape := ⟨1, ![1]⟩
abbrev S2x32 : Shape := ⟨2, ![2, 32]⟩
abbrev S_ : Shape := ⟨0, ![]⟩

class Facts : Prop where
  bcast_S_S2x32 : S_.BroadcastsInDim S2x32 (![] : Fin 0 → Fin S2x32.rank)

variable [Facts]

def fn {F : FTy → Type} [FloatOps F] (main_arg0 : FVec F S4096x16x200 .f32) (main_arg1 : FVec F S200x32 .f32) (main_arg2 : FVec F S200x32 .f32) (main_arg3 : FVec F S32 .f32) (main_arg4 : FVec F S512x128 .f32) (main_arg5 : FVec F S128 .f32) (main_arg6 : FVec F S128x1 .f32) (main_arg7 : FVec F S1 .f32) (main_arg8 : IVec S2x32 32) : IVec S2x32 1 :=
  let main_c : IVec S_ 32 := constantI S_ 32 0#32
  let main_v0 : IVec S2x32 32 := broadcastInDim S2x32 ![] bcast_S_S2x32 main_c
  let main_v1 : IVec S2x32 1 := cmpi .sge main_arg8 main_v0
  let main_c_0 : IVec S_ 32 := constantI S_ 32 16#32
  let main_v2 : IVec S2x32 32 := broadcastInDim S2x32 ![] bcast_S_S2x32 main_c_0
  let main_v3 : IVec S2x32 1 := cmpi .slt main_arg8 main_v2
  let main_v4 : IVec S2x32 1 := andi main_v1 main_v3
  main_v4
-- ==== Pre_finite_and_in_range.lean ====
abbrev S4096x16x200 : Shape := ⟨3, ![4096, 16, 200]⟩
abbrev S200x32 : Shape := ⟨2, ![200, 32]⟩
abbrev S32 : Shape := ⟨1, ![32]⟩
abbrev S512x128 : Shape := ⟨2, ![512, 128]⟩
abbrev S128 : Shape := ⟨1, ![128]⟩
abbrev S128x1 : Shape := ⟨2, ![128, 1]⟩
abbrev S1 : Shape := ⟨1, ![1]⟩
abbrev S2x32 : Shape := ⟨2, ![2, 32]⟩
abbrev S_ : Shape := ⟨0, ![]⟩

class Facts : Prop where
  bcast_S_S2x32 : S_.BroadcastsInDim S2x32 (![] : Fin 0 → Fin S2x32.rank)
  reducesTo_S2x32_S_d0_1 : S2x32.ReducesTo [0, 1] S_
  h_S_ : 0 < S_.numel
  bcast_S_S4096x16x200 : S_.BroadcastsInDim S4096x16x200 (![] : Fin 0 → Fin S4096x16x200.rank)
  reducesTo_S4096x16x200_S_d0_1_2 : S4096x16x200.ReducesTo [0, 1, 2] S_
  bcast_S_S200x32 : S_.BroadcastsInDim S200x32 (![] : Fin 0 → Fin S200x32.rank)
  reducesTo_S200x32_S_d0_1 : S200x32.ReducesTo [0, 1] S_
  bcast_S_S32 : S_.BroadcastsInDim S32 (![] : Fin 0 → Fin S32.rank)
  reducesTo_S32_S_d0 : S32.ReducesTo [0] S_
  bcast_S_S512x128 : S_.BroadcastsInDim S512x128 (![] : Fin 0 → Fin S512x128.rank)
  reducesTo_S512x128_S_d0_1 : S512x128.ReducesTo [0, 1] S_

variable [Facts]

def fn_part2 {F : FTy → Type} [FloatOps F] (main_arg4 : FVec F S512x128 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S512x128 .f32 := broadcastInDim S512x128 ![] bcast_S_S512x128 main_cst_13
  let main_v35 : IVec S512x128 1 := cmpf .ogt main_arg4 main_v34
  let main_cst_14 : FVec F S_ .f32 := constant S_ .f32 0x7F800000#32
  let main_v36 : FVec F S512x128 .f32 := broadcastInDim S512x128 ![] bcast_S_S512x128 main_cst_14
  let main_v37 : IVec S512x128 1 := cmpf .olt main_arg4 main_v36
  let main_v38 : IVec S512x128 1 := andi main_v35 main_v37
  let main_c_15 : IVec S_ 1 := constantI S_ 1 1#1
  let main_v39 : IVec S_ 1 := (fun x v => Host.reduce IntOp.andi x v reducesTo_S512x128_S_d0_1 h_S_) main_v38 main_c_15
  let main_v40 : IVec S_ 1 := andi main_v33 main_v39
  main_v40

def fn_part1 {F : FTy → Type} [FloatOps F] (main_arg1 : FVec F S200x32 .f32) (main_arg2 : FVec F S200x32 .f32) (main_arg3 : FVec F S32 .f32) (main_arg4 : FVec F S512x128 .f32) (main_v12 : IVec S_ 1) (main_v14 : IVec S200x32 1) (main_v15 : FVec F S200x32 .f32) : IVec S_ 1 :=
  let main_v16 : IVec S200x32 1 := cmpf .olt main_arg1 main_v15
  let main_v17 : IVec S200x32 1 := andi main_v14 main_v16
  let main_c_6 : IVec S_ 1 := constantI S_ 1 1#1
  let main_v18 : IVec S_ 1 := (fun x v => Host.reduce IntOp.andi x v reducesTo_S200x32_S_d0_1 h_S_) main_v17 main_c_6
  let main_v19 : IVec S_ 1 := andi main_v12 main_v18
  let main_cst_7 : FVec F S_ .f32 := constant S_ .f32 0xFF800000#32
  let main_v20 : FVec F S200x32 .f32 := broadcastInDim S200x32 ![] bcast_S_S200x32 main_cst_7
  let main_v21 : IVec S200x32 1 := cmpf .ogt main_arg2 main_v20
  let main_cst_8 : FVec F S_ .f32 := constant S_ .f32 0x7F800000#32
  let main_v22 : FVec F S200x32 .f32 := broadcastInDim S200x32 ![] bcast_S_S200x32 main_cst_8
  let main_v23 : IVec S200x32 1 := cmpf .olt main_arg2 main_v22
  let main_v24 : IVec S200x32 1 := andi main_v21 main_v23
  let main_c_9 : IVec S_ 1 := constantI S_ 1 1#1
  let main_v25 : IVec S_ 1 := (fun x v => Host.reduce IntOp.andi x v reducesTo_S200x32_S_d0_1 h_S_) main_v24 main_c_9
  let main_v26 : IVec S_ 1 := andi main_v19 main_v25
  let main_cst_10 : FVec F S_ .f32 := constant S_ .f32 0xFF800000#32
  let main_v27 : FVec F S32 .f32 := broadcastInDim S32 ![] bcast_S_S32 main_cst_10
  let main_v28 : IVec S32 1 := cmpf .ogt main_arg3 main_v27
  let main_cst_11 : FVec F S_ .f32 := constant S_ .f32 0x7F800000#32
  let main_v29 : FVec F S32 .f32 := broadcastInDim S32 ![] bcast_S_S32 main_cst_11
  let main_v30 : IVec S32 1 := cmpf .olt main_arg3 main_v29
  let main_v31 : IVec S32 1 := andi main_v28 main_v30
  let main_c_12 : IVec S_ 1 := constantI S_ 1 1#1
  let main_v32 : IVec S_ 1 := (fun x v => Host.reduce IntOp.andi x v reducesTo_S32_S_d0 h_S_) main_v31 main_c_12
  fn_part2 (F := F) main_arg4 main_v26 main_v32

def fn {F : FTy → Type} [FloatOps F] (main_arg0 : FVec F S4096x16x200 .f32) (main_arg1 : FVec F S200x32 .f32) (main_arg2 : FVec F S200x32 .f32) (main_arg3 : FVec F S32 .f32) (main_arg4 : FVec F S512x128 .f32) (main_arg5 : FVec F S128 .f32) (main_arg6 : FVec F S128x1 .f32) (main_arg7 : FVec F S1 .f32) (main_arg8 : IVec S2x32 32) : IVec S_ 1 :=
  let main_c : IVec S_ 32 := constantI S_ 32 0#32
  let main_v0 : IVec S2x32 32 := broadcastInDim S2x32 ![] bcast_S_S2x32 main_c
  let main_v1 : IVec S2x32 1 := cmpi .sge main_arg8 main_v0
  let main_c_0 : IVec S_ 32 := constantI S_ 32 16#32
  let main_v2 : IVec S2x32 32 := broadcastInDim S2x32 ![] bcast_S_S2x32 main_c_0
  let main_v3 : IVec S2x32 1 := cmpi .slt main_arg8 main_v2
  let main_v4 : IVec S2x32 1 := andi main_v1 main_v3
  let main_c_1 : IVec S_ 1 := constantI S_ 1 1#1
  let main_v5 : IVec S_ 1 := (fun x v => Host.reduce IntOp.andi x v reducesTo_S2x32_S_d0_1 h_S_) main_v4 main_c_1
  let main_cst : FVec F S_ .f32 := constant S_ .f32 0xFF800000#32
  let main_v6 : FVec F S4096x16x200 .f32 := broadcastInDim S4096x16x200 ![] bcast_S_S4096x16x200 main_cst
  let main_v7 : IVec S4096x16x200 1 := cmpf .ogt main_arg0 main_v6
  let main_cst_2 : FVec F S_ .f32 := constant S_ .f32 0x7F800000#32
  let main_v8 : FVec F S4096x16x200 .f32 := broadcastInDim S4096x16x200 ![] bcast_S_S4096x16x200 main_cst_2
  let main_v9 : IVec S4096x16x200 1 := cmpf .olt main_arg0 main_v8
  let main_v10 : IVec S4096x16x200 1 := andi main_v7 main_v9
  let main_c_3 : IVec S_ 1 := constantI S_ 1 1#1
  let main_v11 : IVec S_ 1 := (fun x v => Host.reduce IntOp.andi x v reducesTo_S4096x16x200_S_d0_1_2 h_S_) main_v10 main_c_3
  let main_v12 : IVec S_ 1 := andi main_v5 main_v11
  let main_cst_4 : FVec F S_ .f32 := constant S_ .f32 0xFF800000#32
  let main_v13 : FVec F S200x32 .f32 := broadcastInDim S200x32 ![] bcast_S_S200x32 main_cst_4
  let main_v14 : IVec S200x32 1 := cmpf .ogt main_arg1 main_v13
  let main_cst_5 : FVec F S_ .f32 := constant S_ .f32 0x7F800000#32
  let main_v15 : FVec F S200x32 .f32 := broadcastInDim S200x32 ![] bcast_S_S200x32 main_cst_5
  fn_part1 (F := F) main_arg1 main_arg2 main_arg3 main_arg4 main_v12 main_v14 main_v15
-- ==== Kernel.lean ====
abbrev S4096x16x200 : Shape := ⟨3, ![4096, 16, 200]⟩
abbrev S200x32 : Shape := ⟨2, ![200, 32]⟩
abbrev S32 : Shape := ⟨1, ![32]⟩
abbrev S512x128 : Shape := ⟨2, ![512, 128]⟩
abbrev S128 : Shape := ⟨1, ![128]⟩
abbrev S128x1 : Shape := ⟨2, ![128, 1]⟩
abbrev S1 : Shape := ⟨1, ![1]⟩
abbrev S2x32 : Shape := ⟨2, ![2, 32]⟩
abbrev S4096x3200 : Shape := ⟨2, ![4096, 3200]⟩
abbrev S1x1 : Shape := ⟨2, ![1, 1]⟩
abbrev S3200x128 : Shape := ⟨2, ![3200, 128]⟩
abbrev S1x128 : Shape := ⟨2, ![1, 128]⟩
abbrev S1x32 : Shape := ⟨2, ![1, 32]⟩
abbrev S16x32 : Shape := ⟨2, ![16, 32]⟩
abbrev S16 : Shape := ⟨1, ![16]⟩
abbrev S16x1 : Shape := ⟨2, ![16, 1]⟩
abbrev S32x128 : Shape := ⟨2, ![32, 128]⟩
abbrev S200x128 : Shape := ⟨2, ![200, 128]⟩
abbrev S4096x1 : Shape := ⟨2, ![4096, 1]⟩
abbrev S512x3200 : Shape := ⟨2, ![512, 3200]⟩
abbrev S512x1 : Shape := ⟨2, ![512, 1]⟩

abbrev nBuf : Space → Nat
  | .hbm => 14
  | .vmem => 17
  | .smem => 1
  | _ => 0

abbrev bufTy : (tb : Table) → Fin (tcTables nBuf tb) → BufTy
  | .hbm, ⟨0, _⟩ => ⟨S4096x16x200, .f32⟩
  | .hbm, ⟨1, _⟩ => ⟨S200x32, .f32⟩
  | .hbm, ⟨2, _⟩ => ⟨S200x32, .f32⟩
  | .hbm, ⟨3, _⟩ => ⟨S32, .f32⟩
  | .hbm, ⟨4, _⟩ => ⟨S512x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S2x32, .i32⟩
  | .hbm, ⟨9, _⟩ => ⟨S4096x3200, .f32⟩
  | .hbm, ⟨10, _⟩ => ⟨S1x1, .f32⟩
  | .hbm, ⟨11, _⟩ => ⟨S3200x128, .f32⟩
  | .hbm, ⟨12, _⟩ => ⟨S1x128, .f32⟩
  | .hbm, ⟨13, _⟩ => ⟨S4096x1, .f32⟩
  | .local _ .vmem, ⟨0, _⟩ => ⟨S2x32, .i32⟩
  | .local _ .vmem, ⟨1, _⟩ => ⟨S200x32, .f32⟩
  | .local _ .vmem, ⟨2, _⟩ => ⟨S200x32, .f32⟩
  | .local _ .vmem, ⟨3, _⟩ => ⟨S32, .f32⟩
  | .local _ .vmem, ⟨4, _⟩ => ⟨S512x128, .f32⟩
  | .local _ .vmem, ⟨5, _⟩ => ⟨S128, .f32⟩
  | .local _ .vmem, ⟨6, _⟩ => ⟨S3200x128, .f32⟩
  | .local _ .vmem, ⟨7, _⟩ => ⟨S1x128, .f32⟩
  | .local _ .vmem, ⟨8, _⟩ => ⟨S512x128, .f32⟩
  | .local _ .vmem, ⟨9, _⟩ => ⟨S512x3200, .f32⟩
  | .local _ .vmem, ⟨10, _⟩ => ⟨S512x3200, .f32⟩
  | .local _ .vmem, ⟨11, _⟩ => ⟨S3200x128, .f32⟩
  | .local _ .vmem, ⟨12, _⟩ => ⟨S1x128, .f32⟩
  | .local _ .vmem, ⟨13, _⟩ => ⟨S128x1, .f32⟩
  | .local _ .vmem, ⟨14, _⟩ => ⟨S1x1, .f32⟩
  | .local _ .vmem, ⟨15, _⟩ => ⟨S512x1, .f32⟩
  | .local _ .vmem, ⟨16, _⟩ => ⟨S512x1, .f32⟩
  | .local _ .smem, ⟨0, _⟩ => ⟨S2x32, .i32⟩
  | _, _ => ⟨S4096x16x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := .none

def k0_off1 (v33 : BitVec 32) : Fin 2 → Nat :=
  let c32_i32 : BitVec 32 := 32#32
  let v35 : BitVec 32 := Scalar.muli v33 c32_i32
  let v36 : Index := Scalar.indexCast v35
  let c0_14 : Index := 0#32
  ![v36.toNat, 0]

def k0_off2 (v34 : BitVec 32) : Fin 2 → Nat :=
  let c32_i32_15 : BitVec 32 := 32#32
  let v39 : BitVec 32 := Scalar.muli v34 c32_i32_15
  let v40 : Index := Scalar.indexCast v39
  let c0_16 : Index := 0#32
  ![v40.toNat, 0]

def k0_chk2 (v34 : BitVec 32) : Prop :=
  (∀ a, (k0_off2 v34) a + S32x128.size a ≤ S512x128.size a)
theorem k0_off2_inb : ∀ (v34 : BitVec 32) (k0_hw2 : k0_chk2 v34), ∀ a, (k0_off2 v34) a + S32x128.size a ≤ S512x128.size a := fun v34 k0_hw2 => k0_hw2

def k0_off3 (v33 : BitVec 32) : Fin 2 → Nat :=
  let c32_i32_17 : BitVec 32 := 32#32
  let v45 : BitVec 32 := Scalar.muli v33 c32_i32_17
  let v46 : Index := Scalar.indexCast v45
  let c0_18 : Index := 0#32
  ![v46.toNat, 0]

def k0_chk1 (v33 : BitVec 32) : Prop :=
  (∀ a, (k0_off1 v33) a + S32x128.size a ≤ S512x128.size a) ∧
  (∀ a, (k0_off3 v33) a + S32x128.size a ≤ S512x128.size a)
theorem k0_off1_inb : ∀ (v33 : BitVec 32) (k0_hw1 : k0_chk1 v33), ∀ a, (k0_off1 v33) a + S32x128.size a ≤ S512x128.size a := fun v33 k0_hw1 => k0_hw1.1
theorem k0_off3_inb : ∀ (v33 : BitVec 32) (k0_hw1 : k0_chk1 v33), ∀ a, (k0_off3 v33) a + S32x128.size a ≤ S512x128.size a := fun v33 k0_hw1 => k0_hw1.2

def k0_off4 (v50 : BitVec 32) : Fin 2 → Nat :=
  let c32_i32_23 : BitVec 32 := 32#32
  let v52 : BitVec 32 := Scalar.muli v50 c32_i32_23
  let v53 : Index := Scalar.indexCast v52
  let c0_24 : Index := 0#32
  ![v53.toNat, 0]

def k0_off5 (v51 : BitVec 32) : Fin 2 → Nat :=
  let c32_i32_25 : BitVec 32 := 32#32
  let v56 : BitVec 32 := Scalar.muli v51 c32_i32_25
  let v57 : Index := Scalar.indexCast v56
  let c0_26 : Index := 0#32
  ![v57.toNat, 0]

def k0_chk4 (v51 : BitVec 32) : Prop :=
  (∀ a, (k0_off5 v51) a + S32x128.size a ≤ S512x128.size a)
theorem k0_off5_inb : ∀ (v51 : BitVec 32) (k0_hw4 : k0_chk4 v51), ∀ a, (k0_off5 v51) a + S32x128.size a ≤ S512x128.size a := fun v51 k0_hw4 => k0_hw4

def k0_off6 (v50 : BitVec 32) : Fin 2 → Nat :=
  let c32_i32_27 : BitVec 32 := 32#32
  let v62 : BitVec 32 := Scalar.muli v50 c32_i32_27
  let v63 : Index := Scalar.indexCast v62
  let c0_28 : Index := 0#32
  ![v63.toNat, 0]

def k0_chk3 (v50 : BitVec 32) : Prop :=
  (∀ a, (k0_off4 v50) a + S32x128.size a ≤ S512x128.size a) ∧
  (∀ a, (k0_off6 v50) a + S32x128.size a ≤ S512x128.size a)
theorem k0_off4_inb : ∀ (v50 : BitVec 32) (k0_hw3 : k0_chk3 v50), ∀ a, (k0_off4 v50) a + S32x128.size a ≤ S512x128.size a := fun v50 k0_hw3 => k0_hw3.1
theorem k0_off6_inb : ∀ (v50 : BitVec 32) (k0_hw3 : k0_chk3 v50), ∀ a, (k0_off6 v50) a + S32x128.size a ≤ S512x128.size a := fun v50 k0_hw3 => k0_hw3.2

def k0_off7 (v67 : BitVec 32) : Fin 2 → Nat :=
  let c32_i32_32 : BitVec 32 := 32#32
  let v69 : BitVec 32 := Scalar.muli v67 c32_i32_32
  let v70 : Index := Scalar.indexCast v69
  let c0_33 : Index := 0#32
  ![v70.toNat, 0]

def k0_off8 (v68 : BitVec 32) : Fin 2 → Nat :=
  let c32_i32_34 : BitVec 32 := 32#32
  let v73 : BitVec 32 := Scalar.muli v68 c32_i32_34
  let v74 : Index := Scalar.indexCast v73
  let c0_35 : Index := 0#32
  ![v74.toNat, 0]

def k0_chk6 (v68 : BitVec 32) : Prop :=
  (∀ a, (k0_off8 v68) a + S32x128.size a ≤ S512x128.size a)
theorem k0_off8_inb : ∀ (v68 : BitVec 32) (k0_hw6 : k0_chk6 v68), ∀ a, (k0_off8 v68) a + S32x128.size a ≤ S512x128.size a := fun v68 k0_hw6 => k0_hw6

def k0_off9 (v67 : BitVec 32) : Fin 2 → Nat :=
  let c32_i32_36 : BitVec 32 := 32#32
  let v79 : BitVec 32 := Scalar.muli v67 c32_i32_36
  let v80 : Index := Scalar.indexCast v79
  let c0_37 : Index := 0#32
  ![v80.toNat, 0]

def k0_chk5 (v67 : BitVec 32) : Prop :=
  (∀ a, (k0_off7 v67) a + S32x128.size a ≤ S512x128.size a) ∧
  (∀ a, (k0_off9 v67) a + S32x128.size a ≤ S512x128.size a)
theorem k0_off7_inb : ∀ (v67 : BitVec 32) (k0_hw5 : k0_chk5 v67), ∀ a, (k0_off7 v67) a + S32x128.size a ≤ S512x128.size a := fun v67 k0_hw5 => k0_hw5.1
theorem k0_off9_inb : ∀ (v67 : BitVec 32) (k0_hw5 : k0_chk5 v67), ∀ a, (k0_off9 v67) a + S32x128.size a ≤ S512x128.size a := fun v67 k0_hw5 => k0_hw5.2

def k0_off10 (v84 : BitVec 32) : Fin 2 → Nat :=
  let c32_i32_41 : BitVec 32 := 32#32
  let v86 : BitVec 32 := Scalar.muli v84 c32_i32_41
  let v87 : Index := Scalar.indexCast v86
  let c0_42 : Index := 0#32
  ![v87.toNat, 0]

def k0_off11 (v85 : BitVec 32) : Fin 2 → Nat :=
  let c32_i32_43 : BitVec 32 := 32#32
  let v90 : BitVec 32 := Scalar.muli v85 c32_i32_43
  let v91 : Index := Scalar.indexCast v90
  let c0_44 : Index := 0#32
  ![v91.toNat, 0]

def k0_chk8 (v85 : BitVec 32) : Prop :=
  (∀ a, (k0_off11 v85) a + S32x128.size a ≤ S512x128.size a)
theorem k0_off11_inb : ∀ (v85 : BitVec 32) (k0_hw8 : k0_chk8 v85), ∀ a, (k0_off11 v85) a + S32x128.size a ≤ S512x128.size a := fun v85 k0_hw8 => k0_hw8

def k0_off12 (v84 : BitVec 32) : Fin 2 → Nat :=
  let c32_i32_45 : BitVec 32 := 32#32
  let v96 : BitVec 32 := Scalar.muli v84 c32_i32_45
  let v97 : Index := Scalar.indexCast v96
  let c0_46 : Index := 0#32
  ![v97.toNat, 0]

def k0_chk7 (v84 : BitVec 32) : Prop :=
  (∀ a, (k0_off10 v84) a + S32x128.size a ≤ S512x128.size a) ∧
  (∀ a, (k0_off12 v84) a + S32x128.size a ≤ S512x128.size a)
theorem k0_off10_inb : ∀ (v84 : BitVec 32) (k0_hw7 : k0_chk7 v84), ∀ a, (k0_off10 v84) a + S32x128.size a ≤ S512x128.size a := fun v84 k0_hw7 => k0_hw7.1
theorem k0_off12_inb : ∀ (v84 : BitVec 32) (k0_hw7 : k0_chk7 v84), ∀ a, (k0_off12 v84) a + S32x128.size a ≤ S512x128.size a := fun v84 k0_hw7 => k0_hw7.2

def k0_off13 (v101 : BitVec 32) : Fin 2 → Nat :=
  let c32_i32_50 : BitVec 32 := 32#32
  let v103 : BitVec 32 := Scalar.muli v101 c32_i32_50
  let v104 : Index := Scalar.indexCast v103
  let c0_51 : Index := 0#32
  ![v104.toNat, 0]

def k0_off14 (v102 : BitVec 32) : Fin 2 → Nat :=
  let c32_i32_52 : BitVec 32 := 32#32
  let v107 : BitVec 32 := Scalar.muli v102 c32_i32_52
  let v108 : Index := Scalar.indexCast v107
  let c0_53 : Index := 0#32
  ![v108.toNat, 0]

def k0_chk10 (v102 : BitVec 32) : Prop :=
  (∀ a, (k0_off14 v102) a + S32x128.size a ≤ S512x128.size a)
theorem k0_off14_inb : ∀ (v102 : BitVec 32) (k0_hw10 : k0_chk10 v102), ∀ a, (k0_off14 v102) a + S32x128.size a ≤ S512x128.size a := fun v102 k0_hw10 => k0_hw10

def k0_off15 (v101 : BitVec 32) : Fin 2 → Nat :=
  let c32_i32_54 : BitVec 32 := 32#32
  let v113 : BitVec 32 := Scalar.muli v101 c32_i32_54
  let v114 : Index := Scalar.indexCast v113
  let c0_55 : Index := 0#32
  ![v114.toNat, 0]

def k0_chk9 (v101 : BitVec 32) : Prop :=
  (∀ a, (k0_off13 v101) a + S32x128.size a ≤ S512x128.size a) ∧
  (∀ a, (k0_off15 v101) a + S32x128.size a ≤ S512x128.size a)
theorem k0_off13_inb : ∀ (v101 : BitVec 32) (k0_hw9 : k0_chk9 v101), ∀ a, (k0_off13 v101) a + S32x128.size a ≤ S512x128.size a := fun v101 k0_hw9 => k0_hw9.1
theorem k0_off15_inb : ∀ (v101 : BitVec 32) (k0_hw9 : k0_chk9 v101), ∀ a, (k0_off15 v101) a + S32x128.size a ≤ S512x128.size a := fun v101 k0_hw9 => k0_hw9.2

def k0_off16 (v118 : BitVec 32) : Fin 2 → Nat :=
  let c32_i32_59 : BitVec 32 := 32#32
  let v120 : BitVec 32 := Scalar.muli v118 c32_i32_59
  let v121 : Index := Scalar.indexCast v120
  let c0_60 : Index := 0#32
  ![v121.toNat, 0]

def k0_off17 (v119 : BitVec 32) : Fin 2 → Nat :=
  let c32_i32_61 : BitVec 32 := 32#32
  let v124 : BitVec 32 := Scalar.muli v119 c32_i32_61
  let v125 : Index := Scalar.indexCast v124
  let c0_62 : Index := 0#32
  ![v125.toNat, 0]

def k0_chk12 (v119 : BitVec 32) : Prop :=
  (∀ a, (k0_off17 v119) a + S32x128.size a ≤ S512x128.size a)
theorem k0_off17_inb : ∀ (v119 : BitVec 32) (k0_hw12 : k0_chk12 v119), ∀ a, (k0_off17 v119) a + S32x128.size a ≤ S512x128.size a := fun v119 k0_hw12 => k0_hw12

def k0_off18 (v118 : BitVec 32) : Fin 2 → Nat :=
  let c32_i32_63 : BitVec 32 := 32#32
  let v130 : BitVec 32 := Scalar.muli v118 c32_i32_63
  let v131 : Index := Scalar.indexCast v130
  let c0_64 : Index := 0#32
  ![v131.toNat, 0]

def k0_chk11 (v118 : BitVec 32) : Prop :=
  (∀ a, (k0_off16 v118) a + S32x128.size a ≤ S512x128.size a) ∧
  (∀ a, (k0_off18 v118) a + S32x128.size a ≤ S512x128.size a)
theorem k0_off16_inb : ∀ (v118 : BitVec 32) (k0_hw11 : k0_chk11 v118), ∀ a, (k0_off16 v118) a + S32x128.size a ≤ S512x128.size a := fun v118 k0_hw11 => k0_hw11.1
theorem k0_off18_inb : ∀ (v118 : BitVec 32) (k0_hw11 : k0_chk11 v118), ∀ a, (k0_off18 v118) a + S32x128.size a ≤ S512x128.size a := fun v118 k0_hw11 => k0_hw11.2

def k0_off19 (v135 : BitVec 32) : Fin 2 → Nat :=
  let c32_i32_68 : BitVec 32 := 32#32
  let v137 : BitVec 32 := Scalar.muli v135 c32_i32_68
  let v138 : Index := Scalar.indexCast v137
  let c0_69 : Index := 0#32
  ![v138.toNat, 0]

def k0_off20 (v136 : BitVec 32) : Fin 2 → Nat :=
  let c32_i32_70 : BitVec 32 := 32#32
  let v141 : BitVec 32 := Scalar.muli v136 c32_i32_70
  let v142 : Index := Scalar.indexCast v141
  let c0_71 : Index := 0#32
  ![v142.toNat, 0]

def k0_chk14 (v136 : BitVec 32) : Prop :=
  (∀ a, (k0_off20 v136) a + S32x128.size a ≤ S512x128.size a)
theorem k0_off20_inb : ∀ (v136 : BitVec 32) (k0_hw14 : k0_chk14 v136), ∀ a, (k0_off20 v136) a + S32x128.size a ≤ S512x128.size a := fun v136 k0_hw14 => k0_hw14

def k0_off21 (v135 : BitVec 32) : Fin 2 → Nat :=
  let c32_i32_72 : BitVec 32 := 32#32
  let v147 : BitVec 32 := Scalar.muli v135 c32_i32_72
  let v148 : Index := Scalar.indexCast v147
  let c0_73 : Index := 0#32
  ![v148.toNat, 0]

def k0_chk13 (v135 : BitVec 32) : Prop :=
  (∀ a, (k0_off19 v135) a + S32x128.size a ≤ S512x128.size a) ∧
  (∀ a, (k0_off21 v135) a + S32x128.size a ≤ S512x128.size a)
theorem k0_off19_inb : ∀ (v135 : BitVec 32) (k0_hw13 : k0_chk13 v135), ∀ a, (k0_off19 v135) a + S32x128.size a ≤ S512x128.size a := fun v135 k0_hw13 => k0_hw13.1
theorem k0_off21_inb : ∀ (v135 : BitVec 32) (k0_hw13 : k0_chk13 v135), ∀ a, (k0_off21 v135) a + S32x128.size a ≤ S512x128.size a := fun v135 k0_hw13 => k0_hw13.2

def k0_off22 (v152 : BitVec 32) : Fin 2 → Nat :=
  let c32_i32_77 : BitVec 32 := 32#32
  let v154 : BitVec 32 := Scalar.muli v152 c32_i32_77
  let v155 : Index := Scalar.indexCast v154
  let c0_78 : Index := 0#32
  ![v155.toNat, 0]

def k0_off23 (v153 : BitVec 32) : Fin 2 → Nat :=
  let c32_i32_79 : BitVec 32 := 32#32
  let v158 : BitVec 32 := Scalar.muli v153 c32_i32_79
  let v159 : Index := Scalar.indexCast v158
  let c0_80 : Index := 0#32
  ![v159.toNat, 0]

def k0_chk16 (v153 : BitVec 32) : Prop :=
  (∀ a, (k0_off23 v153) a + S32x128.size a ≤ S512x128.size a)
theorem k0_off23_inb : ∀ (v153 : BitVec 32) (k0_hw16 : k0_chk16 v153), ∀ a, (k0_off23 v153) a + S32x128.size a ≤ S512x128.size a := fun v153 k0_hw16 => k0_hw16

def k0_off24 (v152 : BitVec 32) : Fin 2 → Nat :=
  let c32_i32_81 : BitVec 32 := 32#32
  let v164 : BitVec 32 := Scalar.muli v152 c32_i32_81
  let v165 : Index := Scalar.indexCast v164
  let c0_82 : Index := 0#32
  ![v165.toNat, 0]

def k0_chk15 (v152 : BitVec 32) : Prop :=
  (∀ a, (k0_off22 v152) a + S32x128.size a ≤ S512x128.size a) ∧
  (∀ a, (k0_off24 v152) a + S32x128.size a ≤ S512x128.size a)
theorem k0_off22_inb : ∀ (v152 : BitVec 32) (k0_hw15 : k0_chk15 v152), ∀ a, (k0_off22 v152) a + S32x128.size a ≤ S512x128.size a := fun v152 k0_hw15 => k0_hw15.1
theorem k0_off24_inb : ∀ (v152 : BitVec 32) (k0_hw15 : k0_chk15 v152), ∀ a, (k0_off24 v152) a + S32x128.size a ≤ S512x128.size a := fun v152 k0_hw15 => k0_hw15.2

def k0_off25 (v169 : BitVec 32) : Fin 2 → Nat :=
  let c32_i32_86 : BitVec 32 := 32#32
  let v171 : BitVec 32 := Scalar.muli v169 c32_i32_86
  let v172 : Index := Scalar.indexCast v171
  let c0_87 : Index := 0#32
  ![v172.toNat, 0]

def k0_off26 (v170 : BitVec 32) : Fin 2 → Nat :=
  let c32_i32_88 : BitVec 32 := 32#32
  let v175 : BitVec 32 := Scalar.muli v170 c32_i32_88
  let v176 : Index := Scalar.indexCast v175
  let c0_89 : Index := 0#32
  ![v176.toNat, 0]

def k0_chk18 (v170 : BitVec 32) : Prop :=
  (∀ a, (k0_off26 v170) a + S32x128.size a ≤ S512x128.size a)
theorem k0_off26_inb : ∀ (v170 : BitVec 32) (k0_hw18 : k0_chk18 v170), ∀ a, (k0_off26 v170) a + S32x128.size a ≤ S512x128.size a := fun v170 k0_hw18 => k0_hw18

def k0_off27 (v169 : BitVec 32) : Fin 2 → Nat :=
  let c32_i32_90 : BitVec 32 := 32#32
  let v181 : BitVec 32 := Scalar.muli v169 c32_i32_90
  let v182 : Index := Scalar.indexCast v181
  let c0_91 : Index := 0#32
  ![v182.toNat, 0]

def k0_chk17 (v169 : BitVec 32) : Prop :=
  (∀ a, (k0_off25 v169) a + S32x128.size a ≤ S512x128.size a) ∧
  (∀ a, (k0_off27 v169) a + S32x128.size a ≤ S512x128.size a)
theorem k0_off25_inb : ∀ (v169 : BitVec 32) (k0_hw17 : k0_chk17 v169), ∀ a, (k0_off25 v169) a + S32x128.size a ≤ S512x128.size a := fun v169 k0_hw17 => k0_hw17.1
theorem k0_off27_inb : ∀ (v169 : BitVec 32) (k0_hw17 : k0_chk17 v169), ∀ a, (k0_off27 v169) a + S32x128.size a ≤ S512x128.size a := fun v169 k0_hw17 => k0_hw17.2

def k0_off28 (v186 : BitVec 32) : Fin 2 → Nat :=
  let c32_i32_95 : BitVec 32 := 32#32
  let v188 : BitVec 32 := Scalar.muli v186 c32_i32_95
  let v189 : Index := Scalar.indexCast v188
  let c0_96 : Index := 0#32
  ![v189.toNat, 0]

def k0_off29 (v187 : BitVec 32) : Fin 2 → Nat :=
  let c32_i32_97 : BitVec 32 := 32#32
  let v192 : BitVec 32 := Scalar.muli v187 c32_i32_97
  let v193 : Index := Scalar.indexCast v192
  let c0_98 : Index := 0#32
  ![v193.toNat, 0]

def k0_chk20 (v187 : BitVec 32) : Prop :=
  (∀ a, (k0_off29 v187) a + S32x128.size a ≤ S512x128.size a)
theorem k0_off29_inb : ∀ (v187 : BitVec 32) (k0_hw20 : k0_chk20 v187), ∀ a, (k0_off29 v187) a + S32x128.size a ≤ S512x128.size a := fun v187 k0_hw20 => k0_hw20

def k0_off30 (v186 : BitVec 32) : Fin 2 → Nat :=
  let c32_i32_99 : BitVec 32 := 32#32
  let v198 : BitVec 32 := Scalar.muli v186 c32_i32_99
  let v199 : Index := Scalar.indexCast v198
  let c0_100 : Index := 0#32
  ![v199.toNat, 0]

def k0_chk19 (v186 : BitVec 32) : Prop :=
  (∀ a, (k0_off28 v186) a + S32x128.size a ≤ S512x128.size a) ∧
  (∀ a, (k0_off30 v186) a + S32x128.size a ≤ S512x128.size a)
theorem k0_off28_inb : ∀ (v186 : BitVec 32) (k0_hw19 : k0_chk19 v186), ∀ a, (k0_off28 v186) a + S32x128.size a ≤ S512x128.size a := fun v186 k0_hw19 => k0_hw19.1
theorem k0_off30_inb : ∀ (v186 : BitVec 32) (k0_hw19 : k0_chk19 v186), ∀ a, (k0_off30 v186) a + S32x128.size a ≤ S512x128.size a := fun v186 k0_hw19 => k0_hw19.2

def k0_off31 (v203 : BitVec 32) : Fin 2 → Nat :=
  let c32_i32_104 : BitVec 32 := 32#32
  let v205 : BitVec 32 := Scalar.muli v203 c32_i32_104
  let v206 : Index := Scalar.indexCast v205
  let c0_105 : Index := 0#32
  ![v206.toNat, 0]

def k0_off32 (v204 : BitVec 32) : Fin 2 → Nat :=
  let c32_i32_106 : BitVec 32 := 32#32
  let v209 : BitVec 32 := Scalar.muli v204 c32_i32_106
  let v210 : Index := Scalar.indexCast v209
  let c0_107 : Index := 0#32
  ![v210.toNat, 0]

def k0_chk22 (v204 : BitVec 32) : Prop :=
  (∀ a, (k0_off32 v204) a + S32x128.size a ≤ S512x128.size a)
theorem k0_off32_inb : ∀ (v204 : BitVec 32) (k0_hw22 : k0_chk22 v204), ∀ a, (k0_off32 v204) a + S32x128.size a ≤ S512x128.size a := fun v204 k0_hw22 => k0_hw22

def k0_off33 (v203 : BitVec 32) : Fin 2 → Nat :=
  let c32_i32_108 : BitVec 32 := 32#32
  let v215 : BitVec 32 := Scalar.muli v203 c32_i32_108
  let v216 : Index := Scalar.indexCast v215
  let c0_109 : Index := 0#32
  ![v216.toNat, 0]

def k0_chk21 (v203 : BitVec 32) : Prop :=
  (∀ a, (k0_off31 v203) a + S32x128.size a ≤ S512x128.size a) ∧
  (∀ a, (k0_off33 v203) a + S32x128.size a ≤ S512x128.size a)
theorem k0_off31_inb : ∀ (v203 : BitVec 32) (k0_hw21 : k0_chk21 v203), ∀ a, (k0_off31 v203) a + S32x128.size a ≤ S512x128.size a := fun v203 k0_hw21 => k0_hw21.1
theorem k0_off33_inb : ∀ (v203 : BitVec 32) (k0_hw21 : k0_chk21 v203), ∀ a, (k0_off33 v203) a + S32x128.size a ≤ S512x128.size a := fun v203 k0_hw21 => k0_hw21.2

def k0_off34 (v220 : BitVec 32) : Fin 2 → Nat :=
  let c32_i32_113 : BitVec 32 := 32#32
  let v222 : BitVec 32 := Scalar.muli v220 c32_i32_113
  let v223 : Index := Scalar.indexCast v222
  let c0_114 : Index := 0#32
  ![v223.toNat, 0]

def k0_off35 (v221 : BitVec 32) : Fin 2 → Nat :=
  let c32_i32_115 : BitVec 32 := 32#32
  let v226 : BitVec 32 := Scalar.muli v221 c32_i32_115
  let v227 : Index := Scalar.indexCast v226
  let c0_116 : Index := 0#32
  ![v227.toNat, 0]

def k0_chk24 (v221 : BitVec 32) : Prop :=
  (∀ a, (k0_off35 v221) a + S32x128.size a ≤ S512x128.size a)
theorem k0_off35_inb : ∀ (v221 : BitVec 32) (k0_hw24 : k0_chk24 v221), ∀ a, (k0_off35 v221) a + S32x128.size a ≤ S512x128.size a := fun v221 k0_hw24 => k0_hw24

def k0_off36 (v220 : BitVec 32) : Fin 2 → Nat :=
  let c32_i32_117 : BitVec 32 := 32#32
  let v232 : BitVec 32 := Scalar.muli v220 c32_i32_117
  let v233 : Index := Scalar.indexCast v232
  let c0_118 : Index := 0#32
  ![v233.toNat, 0]

def k0_chk23 (v220 : BitVec 32) : Prop :=
  (∀ a, (k0_off34 v220) a + S32x128.size a ≤ S512x128.size a) ∧
  (∀ a, (k0_off36 v220) a + S32x128.size a ≤ S512x128.size a)
theorem k0_off34_inb : ∀ (v220 : BitVec 32) (k0_hw23 : k0_chk23 v220), ∀ a, (k0_off34 v220) a + S32x128.size a ≤ S512x128.size a := fun v220 k0_hw23 => k0_hw23.1
theorem k0_off36_inb : ∀ (v220 : BitVec 32) (k0_hw23 : k0_chk23 v220), ∀ a, (k0_off36 v220) a + S32x128.size a ≤ S512x128.size a := fun v220 k0_hw23 => k0_hw23.2

def k0_off37 (v237 : BitVec 32) : Fin 2 → Nat :=
  let c32_i32_122 : BitVec 32 := 32#32
  let v239 : BitVec 32 := Scalar.muli v237 c32_i32_122
  let v240 : Index := Scalar.indexCast v239
  let c0_123 : Index := 0#32
  ![v240.toNat, 0]

def k0_off38 (v238 : BitVec 32) : Fin 2 → Nat :=
  let c32_i32_124 : BitVec 32 := 32#32
  let v243 : BitVec 32 := Scalar.muli v238 c32_i32_124
  let v244 : Index := Scalar.indexCast v243
  let c0_125 : Index := 0#32
  ![v244.toNat, 0]

def k0_chk26 (v238 : BitVec 32) : Prop :=
  (∀ a, (k0_off38 v238) a + S32x128.size a ≤ S512x128.size a)
theorem k0_off38_inb : ∀ (v238 : BitVec 32) (k0_hw26 : k0_chk26 v238), ∀ a, (k0_off38 v238) a + S32x128.size a ≤ S512x128.size a := fun v238 k0_hw26 => k0_hw26

def k0_off39 (v237 : BitVec 32) : Fin 2 → Nat :=
  let c32_i32_126 : BitVec 32 := 32#32
  let v249 : BitVec 32 := Scalar.muli v237 c32_i32_126
  let v250 : Index := Scalar.indexCast v249
  let c0_127 : Index := 0#32
  ![v250.toNat, 0]

def k0_chk25 (v237 : BitVec 32) : Prop :=
  (∀ a, (k0_off37 v237) a + S32x128.size a ≤ S512x128.size a) ∧
  (∀ a, (k0_off39 v237) a + S32x128.size a ≤ S512x128.size a)
theorem k0_off37_inb : ∀ (v237 : BitVec 32) (k0_hw25 : k0_chk25 v237), ∀ a, (k0_off37 v237) a + S32x128.size a ≤ S512x128.size a := fun v237 k0_hw25 => k0_hw25.1
theorem k0_off39_inb : ∀ (v237 : BitVec 32) (k0_hw25 : k0_chk25 v237), ∀ a, (k0_off39 v237) a + S32x128.size a ≤ S512x128.size a := fun v237 k0_hw25 => k0_hw25.2

def k0_off40 (v254 : BitVec 32) : Fin 2 → Nat :=
  let c32_i32_131 : BitVec 32 := 32#32
  let v256 : BitVec 32 := Scalar.muli v254 c32_i32_131
  let v257 : Index := Scalar.indexCast v256
  let c0_132 : Index := 0#32
  ![v257.toNat, 0]

def k0_off41 (v255 : BitVec 32) : Fin 2 → Nat :=
  let c32_i32_133 : BitVec 32 := 32#32
  let v260 : BitVec 32 := Scalar.muli v255 c32_i32_133
  let v261 : Index := Scalar.indexCast v260
  let c0_134 : Index := 0#32
  ![v261.toNat, 0]

def k0_chk28 (v255 : BitVec 32) : Prop :=
  (∀ a, (k0_off41 v255) a + S32x128.size a ≤ S512x128.size a)
theorem k0_off41_inb : ∀ (v255 : BitVec 32) (k0_hw28 : k0_chk28 v255), ∀ a, (k0_off41 v255) a + S32x128.size a ≤ S512x128.size a := fun v255 k0_hw28 => k0_hw28

def k0_off42 (v254 : BitVec 32) : Fin 2 → Nat :=
  let c32_i32_135 : BitVec 32 := 32#32
  let v266 : BitVec 32 := Scalar.muli v254 c32_i32_135
  let v267 : Index := Scalar.indexCast v266
  let c0_136 : Index := 0#32
  ![v267.toNat, 0]

def k0_chk27 (v254 : BitVec 32) : Prop :=
  (∀ a, (k0_off40 v254) a + S32x128.size a ≤ S512x128.size a) ∧
  (∀ a, (k0_off42 v254) a + S32x128.size a ≤ S512x128.size a)
theorem k0_off40_inb : ∀ (v254 : BitVec 32) (k0_hw27 : k0_chk27 v254), ∀ a, (k0_off40 v254) a + S32x128.size a ≤ S512x128.size a := fun v254 k0_hw27 => k0_hw27.1
theorem k0_off42_inb : ∀ (v254 : BitVec 32) (k0_hw27 : k0_chk27 v254), ∀ a, (k0_off42 v254) a + S32x128.size a ≤ S512x128.size a := fun v254 k0_hw27 => k0_hw27.2

def k0_off43 (v271 : BitVec 32) : Fin 2 → Nat :=
  let c32_i32_140 : BitVec 32 := 32#32
  let v273 : BitVec 32 := Scalar.muli v271 c32_i32_140
  let v274 : Index := Scalar.indexCast v273
  let c0_141 : Index := 0#32
  ![v274.toNat, 0]

def k0_off44 (v272 : BitVec 32) : Fin 2 → Nat :=
  let c32_i32_142 : BitVec 32 := 32#32
  let v277 : BitVec 32 := Scalar.muli v272 c32_i32_142
  let v278 : Index := Scalar.indexCast v277
  let c0_143 : Index := 0#32
  ![v278.toNat, 0]

def k0_chk30 (v272 : BitVec 32) : Prop :=
  (∀ a, (k0_off44 v272) a + S32x128.size a ≤ S512x128.size a)
theorem k0_off44_inb : ∀ (v272 : BitVec 32) (k0_hw30 : k0_chk30 v272), ∀ a, (k0_off44 v272) a + S32x128.size a ≤ S512x128.size a := fun v272 k0_hw30 => k0_hw30

def k0_off45 (v271 : BitVec 32) : Fin 2 → Nat :=
  let c32_i32_144 : BitVec 32 := 32#32
  let v283 : BitVec 32 := Scalar.muli v271 c32_i32_144
  let v284 : Index := Scalar.indexCast v283
  let c0_145 : Index := 0#32
  ![v284.toNat, 0]

def k0_chk29 (v271 : BitVec 32) : Prop :=
  (∀ a, (k0_off43 v271) a + S32x128.size a ≤ S512x128.size a) ∧
  (∀ a, (k0_off45 v271) a + S32x128.size a ≤ S512x128.size a)
theorem k0_off43_inb : ∀ (v271 : BitVec 32) (k0_hw29 : k0_chk29 v271), ∀ a, (k0_off43 v271) a + S32x128.size a ≤ S512x128.size a := fun v271 k0_hw29 => k0_hw29.1
theorem k0_off45_inb : ∀ (v271 : BitVec 32) (k0_hw29 : k0_chk29 v271), ∀ a, (k0_off45 v271) a + S32x128.size a ≤ S512x128.size a := fun v271 k0_hw29 => k0_hw29.2

def k0_off46 (v288 : BitVec 32) : Fin 2 → Nat :=
  let c32_i32_149 : BitVec 32 := 32#32
  let v290 : BitVec 32 := Scalar.muli v288 c32_i32_149
  let v291 : Index := Scalar.indexCast v290
  let c0_150 : Index := 0#32
  ![v291.toNat, 0]

def k0_off47 (v289 : BitVec 32) : Fin 2 → Nat :=
  let c32_i32_151 : BitVec 32 := 32#32
  let v294 : BitVec 32 := Scalar.muli v289 c32_i32_151
  let v295 : Index := Scalar.indexCast v294
  let c0_152 : Index := 0#32
  ![v295.toNat, 0]

def k0_chk32 (v289 : BitVec 32) : Prop :=
  (∀ a, (k0_off47 v289) a + S32x128.size a ≤ S512x128.size a)
theorem k0_off47_inb : ∀ (v289 : BitVec 32) (k0_hw32 : k0_chk32 v289), ∀ a, (k0_off47 v289) a + S32x128.size a ≤ S512x128.size a := fun v289 k0_hw32 => k0_hw32

def k0_off48 (v288 : BitVec 32) : Fin 2 → Nat :=
  let c32_i32_153 : BitVec 32 := 32#32
  let v300 : BitVec 32 := Scalar.muli v288 c32_i32_153
  let v301 : Index := Scalar.indexCast v300
  let c0_154 : Index := 0#32
  ![v301.toNat, 0]

def k0_chk31 (v288 : BitVec 32) : Prop :=
  (∀ a, (k0_off46 v288) a + S32x128.size a ≤ S512x128.size a) ∧
  (∀ a, (k0_off48 v288) a + S32x128.size a ≤ S512x128.size a)
theorem k0_off46_inb : ∀ (v288 : BitVec 32) (k0_hw31 : k0_chk31 v288), ∀ a, (k0_off46 v288) a + S32x128.size a ≤ S512x128.size a := fun v288 k0_hw31 => k0_hw31.1
theorem k0_off48_inb : ∀ (v288 : BitVec 32) (k0_hw31 : k0_chk31 v288), ∀ a, (k0_off48 v288) a + S32x128.size a ≤ S512x128.size a := fun v288 k0_hw31 => k0_hw31.2

def k0_off49 (v305 : BitVec 32) : Fin 2 → Nat :=
  let c32_i32_158 : BitVec 32 := 32#32
  let v307 : BitVec 32 := Scalar.muli v305 c32_i32_158
  let v308 : Index := Scalar.indexCast v307
  let c0_159 : Index := 0#32
  ![v308.toNat, 0]

def k0_off50 (v306 : BitVec 32) : Fin 2 → Nat :=
  let c32_i32_160 : BitVec 32 := 32#32
  let v311 : BitVec 32 := Scalar.muli v306 c32_i32_160
  let v312 : Index := Scalar.indexCast v311
  let c0_161 : Index := 0#32
  ![v312.toNat, 0]

def k0_chk34 (v306 : BitVec 32) : Prop :=
  (∀ a, (k0_off50 v306) a + S32x128.size a ≤ S512x128.size a)
theorem k0_off50_inb : ∀ (v306 : BitVec 32) (k0_hw34 : k0_chk34 v306), ∀ a, (k0_off50 v306) a + S32x128.size a ≤ S512x128.size a := fun v306 k0_hw34 => k0_hw34

def k0_off51 (v305 : BitVec 32) : Fin 2 → Nat :=
  let c32_i32_162 : BitVec 32 := 32#32
  let v317 : BitVec 32 := Scalar.muli v305 c32_i32_162
  let v318 : Index := Scalar.indexCast v317
  let c0_163 : Index := 0#32
  ![v318.toNat, 0]

def k0_chk33 (v305 : BitVec 32) : Prop :=
  (∀ a, (k0_off49 v305) a + S32x128.size a ≤ S512x128.size a) ∧
  (∀ a, (k0_off51 v305) a + S32x128.size a ≤ S512x128.size a)
theorem k0_off49_inb : ∀ (v305 : BitVec 32) (k0_hw33 : k0_chk33 v305), ∀ a, (k0_off49 v305) a + S32x128.size a ≤ S512x128.size a := fun v305 k0_hw33 => k0_hw33.1
theorem k0_off51_inb : ∀ (v305 : BitVec 32) (k0_hw33 : k0_chk33 v305), ∀ a, (k0_off51 v305) a + S32x128.size a ≤ S512x128.size a := fun v305 k0_hw33 => k0_hw33.2

def k0_off52 (v322 : BitVec 32) : Fin 2 → Nat :=
  let c32_i32_167 : BitVec 32 := 32#32
  let v324 : BitVec 32 := Scalar.muli v322 c32_i32_167
  let v325 : Index := Scalar.indexCast v324
  let c0_168 : Index := 0#32
  ![v325.toNat, 0]

def k0_off53 (v323 : BitVec 32) : Fin 2 → Nat :=
  let c32_i32_169 : BitVec 32 := 32#32
  let v328 : BitVec 32 := Scalar.muli v323 c32_i32_169
  let v329 : Index := Scalar.indexCast v328
  let c0_170 : Index := 0#32
  ![v329.toNat, 0]

def k0_chk36 (v323 : BitVec 32) : Prop :=
  (∀ a, (k0_off53 v323) a + S32x128.size a ≤ S512x128.size a)
theorem k0_off53_inb : ∀ (v323 : BitVec 32) (k0_hw36 : k0_chk36 v323), ∀ a, (k0_off53 v323) a + S32x128.size a ≤ S512x128.size a := fun v323 k0_hw36 => k0_hw36

def k0_off54 (v322 : BitVec 32) : Fin 2 → Nat :=
  let c32_i32_171 : BitVec 32 := 32#32
  let v334 : BitVec 32 := Scalar.muli v322 c32_i32_171
  let v335 : Index := Scalar.indexCast v334
  let c0_172 : Index := 0#32
  ![v335.toNat, 0]

def k0_chk35 (v322 : BitVec 32) : Prop :=
  (∀ a, (k0_off52 v322) a + S32x128.size a ≤ S512x128.size a) ∧
  (∀ a, (k0_off54 v322) a + S32x128.size a ≤ S512x128.size a)
theorem k0_off52_inb : ∀ (v322 : BitVec 32) (k0_hw35 : k0_chk35 v322), ∀ a, (k0_off52 v322) a + S32x128.size a ≤ S512x128.size a := fun v322 k0_hw35 => k0_hw35.1
theorem k0_off54_inb : ∀ (v322 : BitVec 32) (k0_hw35 : k0_chk35 v322), ∀ a, (k0_off54 v322) a + S32x128.size a ≤ S512x128.size a := fun v322 k0_hw35 => k0_hw35.2

def k0_off55 (v339 : BitVec 32) : Fin 2 → Nat :=
  let c32_i32_176 : BitVec 32 := 32#32
  let v341 : BitVec 32 := Scalar.muli v339 c32_i32_176
  let v342 : Index := Scalar.indexCast v341
  let c0_177 : Index := 0#32
  ![v342.toNat, 0]

def k0_off56 (v340 : BitVec 32) : Fin 2 → Nat :=
  let c32_i32_178 : BitVec 32 := 32#32
  let v345 : BitVec 32 := Scalar.muli v340 c32_i32_178
  let v346 : Index := Scalar.indexCast v345
  let c0_179 : Index := 0#32
  ![v346.toNat, 0]

def k0_chk38 (v340 : BitVec 32) : Prop :=
  (∀ a, (k0_off56 v340) a + S32x128.size a ≤ S512x128.size a)
theorem k0_off56_inb : ∀ (v340 : BitVec 32) (k0_hw38 : k0_chk38 v340), ∀ a, (k0_off56 v340) a + S32x128.size a ≤ S512x128.size a := fun v340 k0_hw38 => k0_hw38

def k0_off57 (v339 : BitVec 32) : Fin 2 → Nat :=
  let c32_i32_180 : BitVec 32 := 32#32
  let v351 : BitVec 32 := Scalar.muli v339 c32_i32_180
  let v352 : Index := Scalar.indexCast v351
  let c0_181 : Index := 0#32
  ![v352.toNat, 0]

def k0_chk37 (v339 : BitVec 32) : Prop :=
  (∀ a, (k0_off55 v339) a + S32x128.size a ≤ S512x128.size a) ∧
  (∀ a, (k0_off57 v339) a + S32x128.size a ≤ S512x128.size a)
theorem k0_off55_inb : ∀ (v339 : BitVec 32) (k0_hw37 : k0_chk37 v339), ∀ a, (k0_off55 v339) a + S32x128.size a ≤ S512x128.size a := fun v339 k0_hw37 => k0_hw37.1
theorem k0_off57_inb : ∀ (v339 : BitVec 32) (k0_hw37 : k0_chk37 v339), ∀ a, (k0_off57 v339) a + S32x128.size a ≤ S512x128.size a := fun v339 k0_hw37 => k0_hw37.2

def k0_off58 (v356 : BitVec 32) : Fin 2 → Nat :=
  let c32_i32_185 : BitVec 32 := 32#32
  let v358 : BitVec 32 := Scalar.muli v356 c32_i32_185
  let v359 : Index := Scalar.indexCast v358
  let c0_186 : Index := 0#32
  ![v359.toNat, 0]

def k0_off59 (v357 : BitVec 32) : Fin 2 → Nat :=
  let c32_i32_187 : BitVec 32 := 32#32
  let v362 : BitVec 32 := Scalar.muli v357 c32_i32_187
  let v363 : Index := Scalar.indexCast v362
  let c0_188 : Index := 0#32
  ![v363.toNat, 0]

def k0_chk40 (v357 : BitVec 32) : Prop :=
  (∀ a, (k0_off59 v357) a + S32x128.size a ≤ S512x128.size a)
theorem k0_off59_inb : ∀ (v357 : BitVec 32) (k0_hw40 : k0_chk40 v357), ∀ a, (k0_off59 v357) a + S32x128.size a ≤ S512x128.size a := fun v357 k0_hw40 => k0_hw40

def k0_off60 (v356 : BitVec 32) : Fin 2 → Nat :=
  let c32_i32_189 : BitVec 32 := 32#32
  let v368 : BitVec 32 := Scalar.muli v356 c32_i32_189
  let v369 : Index := Scalar.indexCast v368
  let c0_190 : Index := 0#32
  ![v369.toNat, 0]

def k0_chk39 (v356 : BitVec 32) : Prop :=
  (∀ a, (k0_off58 v356) a + S32x128.size a ≤ S512x128.size a) ∧
  (∀ a, (k0_off60 v356) a + S32x128.size a ≤ S512x128.size a)
theorem k0_off58_inb : ∀ (v356 : BitVec 32) (k0_hw39 : k0_chk39 v356), ∀ a, (k0_off58 v356) a + S32x128.size a ≤ S512x128.size a := fun v356 k0_hw39 => k0_hw39.1
theorem k0_off60_inb : ∀ (v356 : BitVec 32) (k0_hw39 : k0_chk39 v356), ∀ a, (k0_off60 v356) a + S32x128.size a ≤ S512x128.size a := fun v356 k0_hw39 => k0_hw39.2

def k0_off61 (v373 : BitVec 32) : Fin 2 → Nat :=
  let c32_i32_194 : BitVec 32 := 32#32
  let v375 : BitVec 32 := Scalar.muli v373 c32_i32_194
  let v376 : Index := Scalar.indexCast v375
  let c0_195 : Index := 0#32
  ![v376.toNat, 0]

def k0_off62 (v374 : BitVec 32) : Fin 2 → Nat :=
  let c32_i32_196 : BitVec 32 := 32#32
  let v379 : BitVec 32 := Scalar.muli v374 c32_i32_196
  let v380 : Index := Scalar.indexCast v379
  let c0_197 : Index := 0#32
  ![v380.toNat, 0]

def k0_chk42 (v374 : BitVec 32) : Prop :=
  (∀ a, (k0_off62 v374) a + S32x128.size a ≤ S512x128.size a)
theorem k0_off62_inb : ∀ (v374 : BitVec 32) (k0_hw42 : k0_chk42 v374), ∀ a, (k0_off62 v374) a + S32x128.size a ≤ S512x128.size a := fun v374 k0_hw42 => k0_hw42

def k0_off63 (v373 : BitVec 32) : Fin 2 → Nat :=
  let c32_i32_198 : BitVec 32 := 32#32
  let v385 : BitVec 32 := Scalar.muli v373 c32_i32_198
  let v386 : Index := Scalar.indexCast v385
  let c0_199 : Index := 0#32
  ![v386.toNat, 0]

def k0_chk41 (v373 : BitVec 32) : Prop :=
  (∀ a, (k0_off61 v373) a + S32x128.size a ≤ S512x128.size a) ∧
  (∀ a, (k0_off63 v373) a + S32x128.size a ≤ S512x128.size a)
theorem k0_off61_inb : ∀ (v373 : BitVec 32) (k0_hw41 : k0_chk41 v373), ∀ a, (k0_off61 v373) a + S32x128.size a ≤ S512x128.size a := fun v373 k0_hw41 => k0_hw41.1
theorem k0_off63_inb : ∀ (v373 : BitVec 32) (k0_hw41 : k0_chk41 v373), ∀ a, (k0_off63 v373) a + S32x128.size a ≤ S512x128.size a := fun v373 k0_hw41 => k0_hw41.2

def k0_off64 (v390 : BitVec 32) : Fin 2 → Nat :=
  let c32_i32_203 : BitVec 32 := 32#32
  let v392 : BitVec 32 := Scalar.muli v390 c32_i32_203
  let v393 : Index := Scalar.indexCast v392
  let c0_204 : Index := 0#32
  ![v393.toNat, 0]

def k0_off65 (v391 : BitVec 32) : Fin 2 → Nat :=
  let c32_i32_205 : BitVec 32 := 32#32
  let v396 : BitVec 32 := Scalar.muli v391 c32_i32_205
  let v397 : Index := Scalar.indexCast v396
  let c0_206 : Index := 0#32
  ![v397.toNat, 0]

def k0_chk44 (v391 : BitVec 32) : Prop :=
  (∀ a, (k0_off65 v391) a + S32x128.size a ≤ S512x128.size a)
theorem k0_off65_inb : ∀ (v391 : BitVec 32) (k0_hw44 : k0_chk44 v391), ∀ a, (k0_off65 v391) a + S32x128.size a ≤ S512x128.size a := fun v391 k0_hw44 => k0_hw44

def k0_off66 (v390 : BitVec 32) : Fin 2 → Nat :=
  let c32_i32_207 : BitVec 32 := 32#32
  let v402 : BitVec 32 := Scalar.muli v390 c32_i32_207
  let v403 : Index := Scalar.indexCast v402
  let c0_208 : Index := 0#32
  ![v403.toNat, 0]

def k0_chk43 (v390 : BitVec 32) : Prop :=
  (∀ a, (k0_off64 v390) a + S32x128.size a ≤ S512x128.size a) ∧
  (∀ a, (k0_off66 v390) a + S32x128.size a ≤ S512x128.size a)
theorem k0_off64_inb : ∀ (v390 : BitVec 32) (k0_hw43 : k0_chk43 v390), ∀ a, (k0_off64 v390) a + S32x128.size a ≤ S512x128.size a := fun v390 k0_hw43 => k0_hw43.1
theorem k0_off66_inb : ∀ (v390 : BitVec 32) (k0_hw43 : k0_chk43 v390), ∀ a, (k0_off66 v390) a + S32x128.size a ≤ S512x128.size a := fun v390 k0_hw43 => k0_hw43.2

def k0_off67 (v407 : BitVec 32) : Fin 2 → Nat :=
  let c32_i32_212 : BitVec 32 := 32#32
  let v409 : BitVec 32 := Scalar.muli v407 c32_i32_212
  let v410 : Index := Scalar.indexCast v409
  let c0_213 : Index := 0#32
  ![v410.toNat, 0]

def k0_off68 (v408 : BitVec 32) : Fin 2 → Nat :=
  let c32_i32_214 : BitVec 32 := 32#32
  let v413 : BitVec 32 := Scalar.muli v408 c32_i32_214
  let v414 : Index := Scalar.indexCast v413
  let c0_215 : Index := 0#32
  ![v414.toNat, 0]

def k0_chk46 (v408 : BitVec 32) : Prop :=
  (∀ a, (k0_off68 v408) a + S32x128.size a ≤ S512x128.size a)
theorem k0_off68_inb : ∀ (v408 : BitVec 32) (k0_hw46 : k0_chk46 v408), ∀ a, (k0_off68 v408) a + S32x128.size a ≤ S512x128.size a := fun v408 k0_hw46 => k0_hw46

def k0_off69 (v407 : BitVec 32) : Fin 2 → Nat :=
  let c32_i32_216 : BitVec 32 := 32#32
  let v419 : BitVec 32 := Scalar.muli v407 c32_i32_216
  let v420 : Index := Scalar.indexCast v419
  let c0_217 : Index := 0#32
  ![v420.toNat, 0]

def k0_chk45 (v407 : BitVec 32) : Prop :=
  (∀ a, (k0_off67 v407) a + S32x128.size a ≤ S512x128.size a) ∧
  (∀ a, (k0_off69 v407) a + S32x128.size a ≤ S512x128.size a)
theorem k0_off67_inb : ∀ (v407 : BitVec 32) (k0_hw45 : k0_chk45 v407), ∀ a, (k0_off67 v407) a + S32x128.size a ≤ S512x128.size a := fun v407 k0_hw45 => k0_hw45.1
theorem k0_off69_inb : ∀ (v407 : BitVec 32) (k0_hw45 : k0_chk45 v407), ∀ a, (k0_off69 v407) a + S32x128.size a ≤ S512x128.size a := fun v407 k0_hw45 => k0_hw45.2

def k0_off70 (v424 : BitVec 32) : Fin 2 → Nat :=
  let c32_i32_221 : BitVec 32 := 32#32
  let v426 : BitVec 32 := Scalar.muli v424 c32_i32_221
  let v427 : Index := Scalar.indexCast v426
  let c0_222 : Index := 0#32
  ![v427.toNat, 0]

def k0_off71 (v425 : BitVec 32) : Fin 2 → Nat :=
  let c32_i32_223 : BitVec 32 := 32#32
  let v430 : BitVec 32 := Scalar.muli v425 c32_i32_223
  let v431 : Index := Scalar.indexCast v430
  let c0_224 : Index := 0#32
  ![v431.toNat, 0]

def k0_chk48 (v425 : BitVec 32) : Prop :=
  (∀ a, (k0_off71 v425) a + S32x128.size a ≤ S512x128.size a)
theorem k0_off71_inb : ∀ (v425 : BitVec 32) (k0_hw48 : k0_chk48 v425), ∀ a, (k0_off71 v425) a + S32x128.size a ≤ S512x128.size a := fun v425 k0_hw48 => k0_hw48

def k0_off72 (v424 : BitVec 32) : Fin 2 → Nat :=
  let c32_i32_225 : BitVec 32 := 32#32
  let v436 : BitVec 32 := Scalar.muli v424 c32_i32_225
  let v437 : Index := Scalar.indexCast v436
  let c0_226 : Index := 0#32
  ![v437.toNat, 0]

def k0_chk47 (v424 : BitVec 32) : Prop :=
  (∀ a, (k0_off70 v424) a + S32x128.size a ≤ S512x128.size a) ∧
  (∀ a, (k0_off72 v424) a + S32x128.size a ≤ S512x128.size a)
theorem k0_off70_inb : ∀ (v424 : BitVec 32) (k0_hw47 : k0_chk47 v424), ∀ a, (k0_off70 v424) a + S32x128.size a ≤ S512x128.size a := fun v424 k0_hw47 => k0_hw47.1
theorem k0_off72_inb : ∀ (v424 : BitVec 32) (k0_hw47 : k0_chk47 v424), ∀ a, (k0_off72 v424) a + S32x128.size a ≤ S512x128.size a := fun v424 k0_hw47 => k0_hw47.2

def k0_off73 (v441 : BitVec 32) : Fin 2 → Nat :=
  let c32_i32_230 : BitVec 32 := 32#32
  let v443 : BitVec 32 := Scalar.muli v441 c32_i32_230
  let v444 : Index := Scalar.indexCast v443
  let c0_231 : Index := 0#32
  ![v444.toNat, 0]

def k0_off74 (v442 : BitVec 32) : Fin 2 → Nat :=
  let c32_i32_232 : BitVec 32 := 32#32
  let v447 : BitVec 32 := Scalar.muli v442 c32_i32_232
  let v448 : Index := Scalar.indexCast v447
  let c0_233 : Index := 0#32
  ![v448.toNat, 0]

def k0_chk50 (v442 : BitVec 32) : Prop :=
  (∀ a, (k0_off74 v442) a + S32x128.size a ≤ S512x128.size a)
theorem k0_off74_inb : ∀ (v442 : BitVec 32) (k0_hw50 : k0_chk50 v442), ∀ a, (k0_off74 v442) a + S32x128.size a ≤ S512x128.size a := fun v442 k0_hw50 => k0_hw50

def k0_off75 (v441 : BitVec 32) : Fin 2 → Nat :=
  let c32_i32_234 : BitVec 32 := 32#32
  let v453 : BitVec 32 := Scalar.muli v441 c32_i32_234
  let v454 : Index := Scalar.indexCast v453
  let c0_235 : Index := 0#32
  ![v454.toNat, 0]

def k0_chk49 (v441 : BitVec 32) : Prop :=
  (∀ a, (k0_off73 v441) a + S32x128.size a ≤ S512x128.size a) ∧
  (∀ a, (k0_off75 v441) a + S32x128.size a ≤ S512x128.size a)
theorem k0_off73_inb : ∀ (v441 : BitVec 32) (k0_hw49 : k0_chk49 v441), ∀ a, (k0_off73 v441) a + S32x128.size a ≤ S512x128.size a := fun v441 k0_hw49 => k0_hw49.1
theorem k0_off75_inb : ∀ (v441 : BitVec 32) (k0_hw49 : k0_chk49 v441), ∀ a, (k0_off75 v441) a + S32x128.size a ≤ S512x128.size a := fun v441 k0_hw49 => k0_hw49.2

def k0_off76 (v458 : BitVec 32) : Fin 2 → Nat :=
  let c32_i32_239 : BitVec 32 := 32#32
  let v460 : BitVec 32 := Scalar.muli v458 c32_i32_239
  let v461 : Index := Scalar.indexCast v460
  let c0_240 : Index := 0#32
  ![v461.toNat, 0]

def k0_off77 (v459 : BitVec 32) : Fin 2 → Nat :=
  let c32_i32_241 : BitVec 32 := 32#32
  let v464 : BitVec 32 := Scalar.muli v459 c32_i32_241
  let v465 : Index := Scalar.indexCast v464
  let c0_242 : Index := 0#32
  ![v465.toNat, 0]

def k0_chk52 (v459 : BitVec 32) : Prop :=
  (∀ a, (k0_off77 v459) a + S32x128.size a ≤ S512x128.size a)
theorem k0_off77_inb : ∀ (v459 : BitVec 32) (k0_hw52 : k0_chk52 v459), ∀ a, (k0_off77 v459) a + S32x128.size a ≤ S512x128.size a := fun v459 k0_hw52 => k0_hw52

def k0_off78 (v458 : BitVec 32) : Fin 2 → Nat :=
  let c32_i32_243 : BitVec 32 := 32#32
  let v470 : BitVec 32 := Scalar.muli v458 c32_i32_243
  let v471 : Index := Scalar.indexCast v470
  let c0_244 : Index := 0#32
  ![v471.toNat, 0]

def k0_chk51 (v458 : BitVec 32) : Prop :=
  (∀ a, (k0_off76 v458) a + S32x128.size a ≤ S512x128.size a) ∧
  (∀ a, (k0_off78 v458) a + S32x128.size a ≤ S512x128.size a)
theorem k0_off76_inb : ∀ (v458 : BitVec 32) (k0_hw51 : k0_chk51 v458), ∀ a, (k0_off76 v458) a + S32x128.size a ≤ S512x128.size a := fun v458 k0_hw51 => k0_hw51.1
theorem k0_off78_inb : ∀ (v458 : BitVec 32) (k0_hw51 : k0_chk51 v458), ∀ a, (k0_off78 v458) a + S32x128.size a ≤ S512x128.size a := fun v458 k0_hw51 => k0_hw51.2

def k0_off79 (v475 : BitVec 32) : Fin 2 → Nat :=
  let c32_i32_248 : BitVec 32 := 32#32
  let v477 : BitVec 32 := Scalar.muli v475 c32_i32_248
  let v478 : Index := Scalar.indexCast v477
  let c0_249 : Index := 0#32
  ![v478.toNat, 0]

def k0_off80 (v476 : BitVec 32) : Fin 2 → Nat :=
  let c32_i32_250 : BitVec 32 := 32#32
  let v481 : BitVec 32 := Scalar.muli v476 c32_i32_250
  let v482 : Index := Scalar.indexCast v481
  let c0_251 : Index := 0#32
  ![v482.toNat, 0]

def k0_chk54 (v476 : BitVec 32) : Prop :=
  (∀ a, (k0_off80 v476) a + S32x128.size a ≤ S512x128.size a)
theorem k0_off80_inb : ∀ (v476 : BitVec 32) (k0_hw54 : k0_chk54 v476), ∀ a, (k0_off80 v476) a + S32x128.size a ≤ S512x128.size a := fun v476 k0_hw54 => k0_hw54

def k0_off81 (v475 : BitVec 32) : Fin 2 → Nat :=
  let c32_i32_252 : BitVec 32 := 32#32
  let v487 : BitVec 32 := Scalar.muli v475 c32_i32_252
  let v488 : Index := Scalar.indexCast v487
  let c0_253 : Index := 0#32
  ![v488.toNat, 0]

def k0_chk53 (v475 : BitVec 32) : Prop :=
  (∀ a, (k0_off79 v475) a + S32x128.size a ≤ S512x128.size a) ∧
  (∀ a, (k0_off81 v475) a + S32x128.size a ≤ S512x128.size a)
theorem k0_off79_inb : ∀ (v475 : BitVec 32) (k0_hw53 : k0_chk53 v475), ∀ a, (k0_off79 v475) a + S32x128.size a ≤ S512x128.size a := fun v475 k0_hw53 => k0_hw53.1
theorem k0_off81_inb : ∀ (v475 : BitVec 32) (k0_hw53 : k0_chk53 v475), ∀ a, (k0_off81 v475) a + S32x128.size a ≤ S512x128.size a := fun v475 k0_hw53 => k0_hw53.2

def k0_off82 (v492 : BitVec 32) : Fin 2 → Nat :=
  let c32_i32_257 : BitVec 32 := 32#32
  let v494 : BitVec 32 := Scalar.muli v492 c32_i32_257
  let v495 : Index := Scalar.indexCast v494
  let c0_258 : Index := 0#32
  ![v495.toNat, 0]

def k0_off83 (v493 : BitVec 32) : Fin 2 → Nat :=
  let c32_i32_259 : BitVec 32 := 32#32
  let v498 : BitVec 32 := Scalar.muli v493 c32_i32_259
  let v499 : Index := Scalar.indexCast v498
  let c0_260 : Index := 0#32
  ![v499.toNat, 0]

def k0_chk56 (v493 : BitVec 32) : Prop :=
  (∀ a, (k0_off83 v493) a + S32x128.size a ≤ S512x128.size a)
theorem k0_off83_inb : ∀ (v493 : BitVec 32) (k0_hw56 : k0_chk56 v493), ∀ a, (k0_off83 v493) a + S32x128.size a ≤ S512x128.size a := fun v493 k0_hw56 => k0_hw56

def k0_off84 (v492 : BitVec 32) : Fin 2 → Nat :=
  let c32_i32_261 : BitVec 32 := 32#32
  let v504 : BitVec 32 := Scalar.muli v492 c32_i32_261
  let v505 : Index := Scalar.indexCast v504
  let c0_262 : Index := 0#32
  ![v505.toNat, 0]

def k0_chk55 (v492 : BitVec 32) : Prop :=
  (∀ a, (k0_off82 v492) a + S32x128.size a ≤ S512x128.size a) ∧
  (∀ a, (k0_off84 v492) a + S32x128.size a ≤ S512x128.size a)
theorem k0_off82_inb : ∀ (v492 : BitVec 32) (k0_hw55 : k0_chk55 v492), ∀ a, (k0_off82 v492) a + S32x128.size a ≤ S512x128.size a := fun v492 k0_hw55 => k0_hw55.1
theorem k0_off84_inb : ∀ (v492 : BitVec 32) (k0_hw55 : k0_chk55 v492), ∀ a, (k0_off84 v492) a + S32x128.size a ≤ S512x128.size a := fun v492 k0_hw55 => k0_hw55.2

def k0_off85 (v509 : BitVec 32) : Fin 2 → Nat :=
  let c32_i32_266 : BitVec 32 := 32#32
  let v511 : BitVec 32 := Scalar.muli v509 c32_i32_266
  let v512 : Index := Scalar.indexCast v511
  let c0_267 : Index := 0#32
  ![v512.toNat, 0]

def k0_off86 (v510 : BitVec 32) : Fin 2 → Nat :=
  let c32_i32_268 : BitVec 32 := 32#32
  let v515 : BitVec 32 := Scalar.muli v510 c32_i32_268
  let v516 : Index := Scalar.indexCast v515
  let c0_269 : Index := 0#32
  ![v516.toNat, 0]

def k0_chk58 (v510 : BitVec 32) : Prop :=
  (∀ a, (k0_off86 v510) a + S32x128.size a ≤ S512x128.size a)
theorem k0_off86_inb : ∀ (v510 : BitVec 32) (k0_hw58 : k0_chk58 v510), ∀ a, (k0_off86 v510) a + S32x128.size a ≤ S512x128.size a := fun v510 k0_hw58 => k0_hw58

def k0_off87 (v509 : BitVec 32) : Fin 2 → Nat :=
  let c32_i32_270 : BitVec 32 := 32#32
  let v521 : BitVec 32 := Scalar.muli v509 c32_i32_270
  let v522 : Index := Scalar.indexCast v521
  let c0_271 : Index := 0#32
  ![v522.toNat, 0]

def k0_chk57 (v509 : BitVec 32) : Prop :=
  (∀ a, (k0_off85 v509) a + S32x128.size a ≤ S512x128.size a) ∧
  (∀ a, (k0_off87 v509) a + S32x128.size a ≤ S512x128.size a)
theorem k0_off85_inb : ∀ (v509 : BitVec 32) (k0_hw57 : k0_chk57 v509), ∀ a, (k0_off85 v509) a + S32x128.size a ≤ S512x128.size a := fun v509 k0_hw57 => k0_hw57.1
theorem k0_off87_inb : ∀ (v509 : BitVec 32) (k0_hw57 : k0_chk57 v509), ∀ a, (k0_off87 v509) a + S32x128.size a ≤ S512x128.size a := fun v509 k0_hw57 => k0_hw57.2

def k0_off88 (v526 : BitVec 32) : Fin 2 → Nat :=
  let c32_i32_275 : BitVec 32 := 32#32
  let v528 : BitVec 32 := Scalar.muli v526 c32_i32_275
  let v529 : Index := Scalar.indexCast v528
  let c0_276 : Index := 0#32
  ![v529.toNat, 0]

def k0_off89 (v527 : BitVec 32) : Fin 2 → Nat :=
  let c32_i32_277 : BitVec 32 := 32#32
  let v532 : BitVec 32 := Scalar.muli v527 c32_i32_277
  let v533 : Index := Scalar.indexCast v532
  let c0_278 : Index := 0#32
  ![v533.toNat, 0]

def k0_chk60 (v527 : BitVec 32) : Prop :=
  (∀ a, (k0_off89 v527) a + S32x128.size a ≤ S512x128.size a)
theorem k0_off89_inb : ∀ (v527 : BitVec 32) (k0_hw60 : k0_chk60 v527), ∀ a, (k0_off89 v527) a + S32x128.size a ≤ S512x128.size a := fun v527 k0_hw60 => k0_hw60

def k0_off90 (v526 : BitVec 32) : Fin 2 → Nat :=
  let c32_i32_279 : BitVec 32 := 32#32
  let v538 : BitVec 32 := Scalar.muli v526 c32_i32_279
  let v539 : Index := Scalar.indexCast v538
  let c0_280 : Index := 0#32
  ![v539.toNat, 0]

def k0_chk59 (v526 : BitVec 32) : Prop :=
  (∀ a, (k0_off88 v526) a + S32x128.size a ≤ S512x128.size a) ∧
  (∀ a, (k0_off90 v526) a + S32x128.size a ≤ S512x128.size a)
theorem k0_off88_inb : ∀ (v526 : BitVec 32) (k0_hw59 : k0_chk59 v526), ∀ a, (k0_off88 v526) a + S32x128.size a ≤ S512x128.size a := fun v526 k0_hw59 => k0_hw59.1
theorem k0_off90_inb : ∀ (v526 : BitVec 32) (k0_hw59 : k0_chk59 v526), ∀ a, (k0_off90 v526) a + S32x128.size a ≤ S512x128.size a := fun v526 k0_hw59 => k0_hw59.2

def k0_off91 (v543 : BitVec 32) : Fin 2 → Nat :=
  let c32_i32_284 : BitVec 32 := 32#32
  let v545 : BitVec 32 := Scalar.muli v543 c32_i32_284
  let v546 : Index := Scalar.indexCast v545
  let c0_285 : Index := 0#32
  ![v546.toNat, 0]

def k0_off92 (v544 : BitVec 32) : Fin 2 → Nat :=
  let c32_i32_286 : BitVec 32 := 32#32
  let v549 : BitVec 32 := Scalar.muli v544 c32_i32_286
  let v550 : Index := Scalar.indexCast v549
  let c0_287 : Index := 0#32
  ![v550.toNat, 0]

def k0_chk62 (v544 : BitVec 32) : Prop :=
  (∀ a, (k0_off92 v544) a + S32x128.size a ≤ S512x128.size a)
theorem k0_off92_inb : ∀ (v544 : BitVec 32) (k0_hw62 : k0_chk62 v544), ∀ a, (k0_off92 v544) a + S32x128.size a ≤ S512x128.size a := fun v544 k0_hw62 => k0_hw62

def k0_off93 (v543 : BitVec 32) : Fin 2 → Nat :=
  let c32_i32_288 : BitVec 32 := 32#32
  let v555 : BitVec 32 := Scalar.muli v543 c32_i32_288
  let v556 : Index := Scalar.indexCast v555
  let c0_289 : Index := 0#32
  ![v556.toNat, 0]

def k0_chk61 (v543 : BitVec 32) : Prop :=
  (∀ a, (k0_off91 v543) a + S32x128.size a ≤ S512x128.size a) ∧
  (∀ a, (k0_off93 v543) a + S32x128.size a ≤ S512x128.size a)
theorem k0_off91_inb : ∀ (v543 : BitVec 32) (k0_hw61 : k0_chk61 v543), ∀ a, (k0_off91 v543) a + S32x128.size a ≤ S512x128.size a := fun v543 k0_hw61 => k0_hw61.1
theorem k0_off93_inb : ∀ (v543 : BitVec 32) (k0_hw61 : k0_chk61 v543), ∀ a, (k0_off93 v543) a + S32x128.size a ≤ S512x128.size a := fun v543 k0_hw61 => k0_hw61.2

def k0_off94 (v560 : BitVec 32) : Fin 2 → Nat :=
  let c32_i32_293 : BitVec 32 := 32#32
  let v562 : BitVec 32 := Scalar.muli v560 c32_i32_293
  let v563 : Index := Scalar.indexCast v562
  let c0_294 : Index := 0#32
  ![v563.toNat, 0]

def k0_off95 (v561 : BitVec 32) : Fin 2 → Nat :=
  let c32_i32_295 : BitVec 32 := 32#32
  let v566 : BitVec 32 := Scalar.muli v561 c32_i32_295
  let v567 : Index := Scalar.indexCast v566
  let c0_296 : Index := 0#32
  ![v567.toNat, 0]

def k0_chk64 (v561 : BitVec 32) : Prop :=
  (∀ a, (k0_off95 v561) a + S32x128.size a ≤ S512x128.size a)
theorem k0_off95_inb : ∀ (v561 : BitVec 32) (k0_hw64 : k0_chk64 v561), ∀ a, (k0_off95 v561) a + S32x128.size a ≤ S512x128.size a := fun v561 k0_hw64 => k0_hw64

def k0_off96 (v560 : BitVec 32) : Fin 2 → Nat :=
  let c32_i32_297 : BitVec 32 := 32#32
  let v572 : BitVec 32 := Scalar.muli v560 c32_i32_297
  let v573 : Index := Scalar.indexCast v572
  let c0_298 : Index := 0#32
  ![v573.toNat, 0]

def k0_chk63 (v560 : BitVec 32) : Prop :=
  (∀ a, (k0_off94 v560) a + S32x128.size a ≤ S512x128.size a) ∧
  (∀ a, (k0_off96 v560) a + S32x128.size a ≤ S512x128.size a)
theorem k0_off94_inb : ∀ (v560 : BitVec 32) (k0_hw63 : k0_chk63 v560), ∀ a, (k0_off94 v560) a + S32x128.size a ≤ S512x128.size a := fun v560 k0_hw63 => k0_hw63.1
theorem k0_off96_inb : ∀ (v560 : BitVec 32) (k0_hw63 : k0_chk63 v560), ∀ a, (k0_off96 v560) a + S32x128.size a ≤ S512x128.size a := fun v560 k0_hw63 => k0_hw63.2

abbrev stage0_0 : Fin 1 → Memref sig .tc .vmem S2x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S200x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3200x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3200x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S4096x16x200 : Shape := ⟨3, ![4096, 16, 200]⟩
abbrev S200x32 : Shape := ⟨2, ![200, 32]⟩
abbrev S32 : Shape := ⟨1, ![32]⟩
abbrev S512x128 : Shape := ⟨2, ![512, 128]⟩
abbrev S128 : Shape := ⟨1, ![128]⟩
abbrev S128x1 : Shape := ⟨2, ![128, 1]⟩
abbrev S1 : Shape := ⟨1, ![1]⟩
abbrev S2x32 : Shape := ⟨2, ![2, 32]⟩
abbrev S1x32 : Shape := ⟨2, ![1, 32]⟩
abbrev S_ : Shape := ⟨0, ![]⟩
abbrev S16 : Shape := ⟨1, ![16]⟩
abbrev S32x1 : Shape := ⟨2, ![32, 1]⟩
abbrev S1x32x1 : Shape := ⟨3, ![1, 32, 1]⟩
abbrev S4096x32x200 : Shape := ⟨3, ![4096, 32, 200]⟩
abbrev S4096x16x32 : Shape := ⟨3, ![4096, 16, 32]⟩
abbrev S1x1x32 : Shape := ⟨3, ![1, 1, 32]⟩
abbrev S4096x512 : Shape := ⟨2, ![4096, 512]⟩
abbrev S4096x128 : Shape := ⟨2, ![4096, 128]⟩
abbrev S1x128 : Shape := ⟨2, ![1, 128]⟩
abbrev S4096x1 : Shape := ⟨2, ![4096, 1]⟩
abbrev S1x1 : Shape := ⟨2, ![1, 1]⟩

abbrev nBuf : Space → Nat
  | .hbm => 106
  | .vmem => 0
  | .smem => 0
  | _ => 0

abbrev bufTy : (tb : Table) → Fin (tcTables nBuf tb) → BufTy
  | .hbm, ⟨0, _⟩ => ⟨S4096x16x200, .f32⟩
  | .hbm, ⟨1, _⟩ => ⟨S200x32, .f32⟩
  | .hbm, ⟨2, _⟩ => ⟨S200x32, .f32⟩
  | .hbm, ⟨3, _⟩ => ⟨S32, .f32⟩
  | .hbm, ⟨4, _⟩ => ⟨S512x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S2x32, .i32⟩
  | .hbm, ⟨9, _⟩ => ⟨S1x32, .i32⟩
  | .hbm, ⟨10, _⟩ => ⟨S32, .i32⟩
  | .hbm, ⟨11, _⟩ => ⟨S1x32, .i32⟩
  | .hbm, ⟨12, _⟩ => ⟨S32, .i32⟩
  | .hbm, ⟨13, _⟩ => ⟨S_, .f32⟩
  | .hbm, ⟨14, _⟩ => ⟨S16, .f32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S32, .i32⟩
  | .hbm, ⟨22, _⟩ => ⟨S32x1, .i32⟩
  | .hbm, ⟨23, _⟩ => ⟨S_, .f32⟩
  | .hbm, ⟨24, _⟩ => ⟨S32, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .i1⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .i32⟩
  | .hbm, ⟨38, _⟩ => ⟨S32, .i32⟩
  | .hbm, ⟨39, _⟩ => ⟨S32, .i1⟩
  | .hbm, ⟨40, _⟩ => ⟨S_, .i32⟩
  | .hbm, ⟨41, _⟩ => ⟨S32, .i32⟩
  | .hbm, ⟨42, _⟩ => ⟨S32, .i32⟩
  | .hbm, ⟨43, _⟩ => ⟨S32, .i32⟩
  | .hbm, ⟨44, _⟩ => ⟨S32x1, .i32⟩
  | .hbm, ⟨45, _⟩ => ⟨S32, .f32⟩
  | .hbm, ⟨46, _⟩ => ⟨S_, .i32⟩
  | .hbm, ⟨47, _⟩ => ⟨S32, .i32⟩
  | .hbm, ⟨48, _⟩ => ⟨S32, .i1⟩
  | .hbm, ⟨49, _⟩ => ⟨S_, .i32⟩
  | .hbm, ⟨50, _⟩ => ⟨S32, .i32⟩
  | .hbm, ⟨51, _⟩ => ⟨S32, .i32⟩
  | .hbm, ⟨52, _⟩ => ⟨S32, .i32⟩
  | .hbm, ⟨53, _⟩ => ⟨S32x1, .i32⟩
  | .hbm, ⟨54, _⟩ => ⟨S32, .f32⟩
  | .hbm, ⟨55, _⟩ => ⟨S32, .f32⟩
  | .hbm, ⟨56, _⟩ => ⟨S32, .f32⟩
  | .hbm, ⟨57, _⟩ => ⟨S1x32x1, .f32⟩
  | .hbm, ⟨58, _⟩ => ⟨S_, .i32⟩
  | .hbm, ⟨59, _⟩ => ⟨S32, .i32⟩
  | .hbm, ⟨60, _⟩ => ⟨S32, .i1⟩
  | .hbm, ⟨61, _⟩ => ⟨S_, .i32⟩
  | .hbm, ⟨62, _⟩ => ⟨S32, .i32⟩
  | .hbm, ⟨63, _⟩ => ⟨S32, .i32⟩
  | .hbm, ⟨64, _⟩ => ⟨S32, .i32⟩
  | .hbm, ⟨65, _⟩ => ⟨S32x1, .i32⟩
  | .hbm, ⟨66, _⟩ => ⟨S4096x32x200, .f32⟩
  | .hbm, ⟨67, _⟩ => ⟨S4096x32x200, .f32⟩
  | .hbm, ⟨68, _⟩ => ⟨S4096x32x200, .f32⟩
  | .hbm, ⟨69, _⟩ => ⟨S_, .f32⟩
  | .hbm, ⟨70, _⟩ => ⟨S4096x16x200, .f32⟩
  | .hbm, ⟨71, _⟩ => ⟨S_, .i32⟩
  | .hbm, ⟨72, _⟩ => ⟨S32, .i32⟩
  | .hbm, ⟨73, _⟩ => ⟨S32, .i1⟩
  | .hbm, ⟨74, _⟩ => ⟨S_, .i32⟩
  | .hbm, ⟨75, _⟩ => ⟨S32, .i32⟩
  | .hbm, ⟨76, _⟩ => ⟨S32, .i32⟩
  | .hbm, ⟨77, _⟩ => ⟨S32, .i32⟩
  | .hbm, ⟨78, _⟩ => ⟨S32x1, .i32⟩
  | .hbm, ⟨79, _⟩ => ⟨S4096x16x200, .f32⟩
  | .hbm, ⟨80, _⟩ => ⟨S4096x16x32, .f32⟩
  | .hbm, ⟨81, _⟩ => ⟨S4096x16x32, .f32⟩
  | .hbm, ⟨82, _⟩ => ⟨S4096x16x32, .f32⟩
  | .hbm, ⟨83, _⟩ => ⟨S1x1x32, .f32⟩
  | .hbm, ⟨84, _⟩ => ⟨S4096x16x32, .f32⟩
  | .hbm, ⟨85, _⟩ => ⟨S4096x16x32, .f32⟩
  | .hbm, ⟨86, _⟩ => ⟨S4096x512, .f32⟩
  | .hbm, ⟨87, _⟩ => ⟨S4096x128, .f32⟩
  | .hbm, ⟨88, _⟩ => ⟨S1x128, .f32⟩
  | .hbm, ⟨89, _⟩ => ⟨S4096x128, .f32⟩
  | .hbm, ⟨90, _⟩ => ⟨S4096x128, .f32⟩
  | .hbm, ⟨91, _⟩ => ⟨S_, .f32⟩
  | .hbm, ⟨92, _⟩ => ⟨S4096x128, .f32⟩
  | .hbm, ⟨93, _⟩ => ⟨S4096x128, .f32⟩
  | .hbm, ⟨94, _⟩ => ⟨S4096x1, .f32⟩
  | .hbm, ⟨95, _⟩ => ⟨S1x1, .f32⟩
  | .hbm, ⟨96, _⟩ => ⟨S4096x1, .f32⟩
  | .hbm, ⟨97, _⟩ => ⟨S4096x1, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | _, _ => ⟨S4096x16x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_c_12 : Ref sig .tc := ⟨.hbm, 71, rfl⟩
abbrev main_v46 : Ref sig .tc := ⟨.hbm, 72, rfl⟩
abbrev main_v47 : Ref sig .tc := ⟨.hbm, 73, rfl⟩
abbrev main_c_13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call1_cst : Ref sig .tc := ⟨.hbm, 91, rfl⟩
abbrev main_call1_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]
-- ==== Proof.FoldProgram.lean ====
/- The fold kernel read as a program over its loop steps: a prologue (the edge weights, the zeroed scratch), one step
   per edge, one step per node block, and an epilogue (the bias row). -/
module

public import proofs.«01_k».proof.Proof.Gen.KernelIdeal.Skeleton

@[expose] public section

noncomputable section

namespace Cert.Proof.Fold

open Idealize.ShloMosaic Idealize.SL.Sem
open Cert.KernelIdeal Cert.KernelIdeal.Gen

variable {F : FTy → Type} [FloatOps F]

/-- Row `r`, column `e` of the edge list is inside it. -/
theorem inb_word (r : Fin 2) (e : Fin 32) : ∀ a, (![r.val, e.val] : Fin 2 → Nat) a + S1x1.size a ≤ S2x32.size a := by
  intro a
  match a with
  | ⟨0, _⟩ => show r.val + 1 ≤ 2; omega
  | ⟨1, _⟩ => show e.val + 1 ≤ 32; omega

/-- Entry `e` of the weights is inside them. -/
theorem slices_weight (e : Fin 32) : S1x32.Slices ![0, e.val] S1x1 := by
  revert e; decide

/-- The rows of node block `u`, in a 512-row buffer. -/
theorem inb_node (u : Fin 16) : ∀ a, (![32 * u.val, 0] : Fin 2 → Nat) a + S32x128.size a ≤ S512x128.size a := by
  intro a
  match a with
  | ⟨0, _⟩ => show 32 * u.val + 32 ≤ 512; omega
  | ⟨1, _⟩ => show 0 + 128 ≤ 128; omega

/-- The rows of node block `u`, in the 3200-row folded weight. -/
theorem inb_fold (u : Fin 16) : ∀ a, (![200 * u.val, 0] : Fin 2 → Nat) a + S200x128.size a ≤ S3200x128.size a := by
  intro a
  match a with
  | ⟨0, _⟩ => show 200 * u.val + 200 ≤ 3200; omega
  | ⟨1, _⟩ => show 0 + 128 ≤ 128; omega

/-- What edge `e` stores: the 32 rows it read of the scratch, plus its weight times the 32 rows it read of `fc_w`. -/
def edgeVal (e : Fin 32) (norm : FVec F S1x32 .f32) (a f : Vec F S32x128 .f32) : FVec F S32x128 .f32 :=
  shapeCast S32x128 (addf a (mulf (broadcastTo S32x128 (extractStridedSlice S1x1 ![0, e.val] norm (slices_weight e)) broadcasts_S1x1_S32x128) f))
    shapeCasts_S32x128_S32x128

/-- What node block `u` stores: its rows of `fc_w` and of the scratch through the two weights. -/
def nodeVal (W0 W1 : Vec F S200x32 .f32) (f a : Vec F S32x128 .f32) : FVec F S200x128 .f32 :=
  addf (matmul dot_S200x32_S32x128_S200x128_1_0_0_1_n_n none W0 f (constant S200x128 .f32 0x00000000#32))
    (matmul dot_S200x32_S32x128_S200x128_1_0_0_1_n_n none W1 a (constant S200x128 .f32 0x00000000#32))

/-- A 32-row block of zeros, from which the column sums start. -/
def zero32 : FVec F S32x128 .f32 := broadcast S32x128 (Scalar.ofBits .f32 0x00000000#32)

section

variable (arg0 : Memref sig .tc .vmem S2x32 .i32) (arg1 : Memref sig .tc .smem S2x32 .i32) (arg2 : Memref sig .tc .vmem S200x32 .f32)
  (arg3 : Memref sig .tc .vmem S200x32 .f32) (arg4 : Memref sig .tc .vmem S32 .f32) (arg5 : Memref sig .tc .vmem S512x128 .f32)
  (arg6 : Memref sig .tc .vmem S128 .f32) (arg7 : Memref sig .tc .vmem S3200x128 .f32) (arg8 : Memref sig .tc .vmem S1x128 .f32)
  (arg9 : Memref sig .tc .vmem S512x128 .f32)

/-- The edge weights computed and the scratch zeroed. -/
def prologue : Prog (TpuEff nD τ sig (Elt F) Λ₀ .tc) (FVec F S1x32 .f32) := do
  let v0 : Vec F S1x32 .i32 ← Prog.lift (.load arg0 (Rect.unit (s := S2x32) ![0, 0] S1x32.size inb_S2x32_S1x32_0_0).toLoadRect (View.loadsAt_vmem h_S1x32))
  let v1 : Vec F S1x32 .i32 ← Prog.lift (.load arg0 (Rect.unit (s := S2x32) ![1, 0] S1x32.size inb_S2x32_S1x32_1_0).toLoadRect (View.loadsAt_vmem h_S1x32))
  let _v30 : Vec F S512x128 .f32 ← Prog.lift (.load arg9 (Rect.unit (s := S512x128) ![0, 0] S512x128.size inb_S512x128_S512x128_0_0).toLoadRect (View.loadsAt_vmem h_S512x128))
  Prog.lift (.store arg9 (Rect.unit (s := S512x128) ![0, 0] S512x128.size inb_S512x128_S512x128_0_0) (k0_pay4 (F := F)) Finset.univ (View.stores_vmem_bits_univ h_S512x128 rfl) (.inl rfl))
  pure (k0_pay3 v0 v1)

/-- Edge `e`: its two words read, the rows they name taken to be inside, the update of the source's rows. -/
def edgeStep (norm : FVec F S1x32 .f32) (e : Fin 32) : Prog (TpuEff nD τ sig (Elt F) Λ₀ .tc) PUnit := do
  let s : Elt F .i32 ← smemLoad arg1 (Rect.unit (s := S2x32) ![0, e.val] S1x1.size (inb_word 0 e)) numel1_S1x1 rfl
  have hs : k0_chk1 s := (← Prog.lift (TpuEff.assume (k0_chk1 s) (k0_chk1.dec s))).down
  let d : Elt F .i32 ← smemLoad arg1 (Rect.unit (s := S2x32) ![1, e.val] S1x1.size (inb_word 1 e)) numel1_S1x1 rfl
  have hd : k0_chk2 d := (← Prog.lift (TpuEff.assume (k0_chk2 d) (k0_chk2.dec d))).down
  let a : Vec F S32x128 .f32 ← Prog.lift (.load arg9 (Rect.unit (s := S512x128) (k0_off1 s) S32x128.size (k0_off1_inb s hs)).toLoadRect (View.loadsAt_vmem h_S32x128))
  let f : Vec F S32x128 .f32 ← Prog.lift (.load arg5 (Rect.unit (s := S512x128) (k0_off2 d) S32x128.size (k0_off2_inb d hd)).toLoadRect (View.loadsAt_vmem h_S32x128))
  let _x : Vec F S32x128 .f32 ← Prog.lift (.load arg9 (Rect.unit (s := S512x128) (k0_off3 s) S32x128.size (k0_off3_inb s hs)).toLoadRect (View.loadsAt_vmem h_S32x128))
  Prog.lift (.store arg9 (Rect.unit (s := S512x128) (k0_off3 s) S32x128.size (k0_off3_inb s hs)) (edgeVal e norm a f) Finset.univ (View.stores_vmem_bits_univ h_S32x128 rfl) (.inl rfl))

/-- The edges of a list in turn, then the rest. -/
def edgeSteps (norm : FVec F S1x32 .f32) : List (Fin 32) → Prog (TpuEff nD τ sig (Elt F) Λ₀ .tc) PUnit → Prog (TpuEff nD τ sig (Elt F) Λ₀ .tc) PUnit
  | [], k => k
  | e :: es, k => edgeStep arg1 arg5 arg9 norm e >>= fun _ => edgeSteps norm es k

/-- Node block `u`: its 200 rows of the folded weight stored, its rows of `fc_w` added to the running sum. -/
def nodeStep (W0 W1 : Vec F S200x32 .f32) (fsum : FVec F S32x128 .f32) (u : Fin 16) : Prog (TpuEff nD τ sig (Elt F) Λ₀ .tc) (FVec F S32x128 .f32) := do
  let f : Vec F S32x128 .f32 ← Prog.lift (.load arg5 (Rect.unit (s := S512x128) ![32 * u.val, 0] S32x128.size (inb_node u)).toLoadRect (View.loadsAt_vmem h_S32x128))
  let a : Vec F S32x128 .f32 ← Prog.lift (.load arg9 (Rect.unit (s := S512x128) ![32 * u.val, 0] S32x128.size (inb_node u)).toLoadRect (View.loadsAt_vmem h_S32x128))
  let _x : Vec F S200x128 .f32 ← Prog.lift (.load arg7 (Rect.unit (s := S3200x128) ![200 * u.val, 0] S200x128.size (inb_fold u)).toLoadRect (View.loadsAt_vmem h_S200x128))
  Prog.lift (.store arg7 (Rect.unit (s := S3200x128) ![200 * u.val, 0] S200x128.size (inb_fold u)) (nodeVal W0 W1 f a) Finset.univ (View.stores_vmem_bits_univ h_S200x128 rfl) (.inl rfl))
  pure (addf fsum f)

/-- The node blocks of a list in turn, then the rest at the sum. -/
def nodeSteps (W0 W1 : Vec F S200x32 .f32) : List (Fin 16) → FVec F S32x128 .f32 → (FVec F S32x128 .f32 → Prog (TpuEff nD τ sig (Elt F) Λ₀ .tc) PUnit) →
    Prog (TpuEff nD τ sig (Elt F) Λ₀ .tc) PUnit
  | [], fsum, k => k fsum
  | u :: us, fsum, k => nodeStep arg5 arg7 arg9 W0 W1 fsum u >>= fun fsum' => nodeSteps W0 W1 us fsum' k

/-- The bias row stored. -/
def epilogue (fsum : FVec F S32x128 .f32) : Prog (TpuEff nD τ sig (Elt F) Λ₀ .tc) PUnit := do
  let v692 : Vec F S32 .f32 ← Prog.lift (.load arg4 (Rect.unit (s := S32) ![0] S32.size inb_S32_S32_0).toLoadRect (View.loadsAt_vmem h_S32))
  let v695 : Vec F S128 .f32 ← Prog.lift (.load arg6 (Rect.unit (s := S128) ![0] S128.size inb_S128_S128_0).toLoadRect (View.loadsAt_vmem h_S128))
  let _v698 : Vec F S1x128 .f32 ← Prog.lift (.load arg8 (Rect.unit (s := S1x128) ![0, 0] S1x128.size inb_S1x128_S1x128_0_0).toLoadRect (View.loadsAt_vmem h_S1x128))
  Prog.lift (.store arg8 (Rect.unit (s := S1x128) ![0, 0] S1x128.size inb_S1x128_S1x128_0_0) (k0_pay2 fsum v692 v695) Finset.univ (View.stores_vmem_bits_univ h_S1x128 rfl) (.inl rfl))
  pure ⟨⟩

/-- The edges' numbers, in order. -/
abbrev edges : List (Fin 32) := [0, 1, 2, 3, 4, 5, 6, 7, 8, 9, 10, 11, 12, 13, 14, 15, 16, 17, 18, 19, 20, 21, 22, 23, 24, 25, 26, 27, 28, 29, 30, 31]

/-- The nodes' numbers, in order. -/
abbrev nodes : List (Fin 16) := [0, 1, 2, 3, 4, 5, 6, 7, 8, 9, 10, 11, 12, 13, 14, 15]

/-- The fold kernel, step by step. -/
def foldProg : Prog (TpuEff nD τ sig (Elt F) Λ₀ .tc) PUnit :=
  prologue arg0 arg9 >>= fun norm => edgeSteps arg1 arg5 arg9 norm edges (do
    let W0 : Vec F S200x32 .f32 ← Prog.lift (.load arg2 (Rect.unit (s := S200x32) ![0, 0] S200x32.size inb_S200x32_S200x32_0_0).toLoadRect (View.loadsAt_vmem h_S200x32))
    let W1 : Vec F S200x32 .f32 ← Prog.lift (.load arg3 (Rect.unit (s := S200x32) ![0, 0] S200x32.size inb_S200x32_S200x32_0_0).toLoadRect (View.loadsAt_vmem h_S200x32))
    nodeSteps arg5 arg7 arg9 W0 W1 nodes zero32 (epilogue arg4 arg6 arg8))

end

set_option maxRecDepth 65536 in
set_option maxHeartbeats 4000000 in
/-- The printed fold kernel is that program. -/
theorem fold_eq (arg0 : Memref sig .tc .vmem S2x32 .i32) (harg0 : arg0.IsWhole) (arg1 : Memref sig .tc .smem S2x32 .i32) (harg1 : arg1.IsWhole) (arg2 : Memref sig .tc .vmem S200x32 .f32) (harg2 : arg2.IsWhole) (arg3 : Memref sig .tc .vmem S200x32 .f32) (harg3 : arg3.IsWhole) (arg4 : Memref sig .tc .vmem S32 .f32) (harg4 : arg4.IsWhole) (arg5 : Memref sig .tc .vmem S512x128 .f32) (harg5 : arg5.IsWhole) (arg6 : Memref sig .tc .vmem S128 .f32) (harg6 : arg6.IsWhole) (arg7 : Memref sig .tc .vmem S3200x128 .f32) (harg7 : arg7.IsWhole) (arg8 : Memref sig .tc .vmem S1x128 .f32) (harg8 : arg8.IsWhole) (arg9 : Memref sig .tc .vmem S512x128 .f32) (harg9 : arg9.IsWhole) :
    cc0__fold_kernel (F := F) arg0 harg0 arg1 harg1 arg2 harg2 arg3 harg3 arg4 harg4 arg5 harg5 arg6 harg6 arg7 harg7 arg8 harg8 arg9 harg9
      = foldProg arg0 arg1 arg2 arg3 arg4 arg5 arg6 arg7 arg8 arg9 := by
  with_unfolding_all exact rfl

end Cert.Proof.Fold

end
-- ==== Proof.FoldSteps.lean ====
/- One step of each kind of the fold kernel: what it makes of the buffers it holds. -/
module

public import proofs.«01_k».proof.Proof.FoldProgram
public import Idealize.ShloMosaic.Lib.Tactic
public import Idealize.ShloMosaic.Lib.VecWindow
public import Idealize.ShloMosaic.Lib.Updates.Own
public import Idealize.ShloMosaic.Lib.LaneScatter.Fold
public import Idealize.ShloMosaic.Lib.ValueIdxCore

@[expose] public section

noncomputable section

namespace Cert.Proof.Fold

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Cert.KernelIdeal Cert.KernelIdeal.Gen
open VecWindow (window put)
open Idealize.ShloMosaic.ValueIdx (ix1 ix2)
open Idealize.ShloMosaic.LaneScatter (raw raw_owns)
open Idealize.ShloMosaic.Updates (owns_read)

variable {F : FTy → Type} [FloatOps F]
variable {Ix : Type} [DecidableEq Ix] {U : Type} [URA U] {Lvl : Type} [Preorder Lvl]

local notation "𝕄" => MT nD τ sig Ix (Elt F) ℕ U Lvl

/-- The rows of node block `u` of a 512-row array. -/
def rows (A : Vec F S512x128 .f32) (u : Fin 16) : Vec F S32x128 .f32 := window A ![32 * u.val, 0] S32x128.size (inb_node u)

/-- The edge weights of an edge list, from its row of sources and its row of destinations. -/
def normOf (x : Vec F S2x32 .i32) : FVec F S1x32 .f32 :=
  k0_pay3 (F := F) (window x ![0, 0] S1x32.size inb_S2x32_S1x32_0_0) (window x ![1, 0] S1x32.size inb_S2x32_S1x32_1_0)

/-- What edge `e` makes of the scratch. -/
def edgeUpd (src dst : Fin 32 → Fin 16) (norm : FVec F S1x32 .f32) (W : Vec F S512x128 .f32) (A : Vec F S512x128 .f32) (e : Fin 32) : Vec F S512x128 .f32 :=
  put A ![32 * (src e).val, 0] S32x128.size (edgeVal e norm (rows A (src e)) (rows W (dst e)))

/-- What node block `u` makes of the folded weight. -/
def nodeUpd (W0 W1 : Vec F S200x32 .f32) (W A : Vec F S512x128 .f32) (G : Vec F S3200x128 .f32) (u : Fin 16) : Vec F S3200x128 .f32 :=
  put G ![200 * u.val, 0] S200x128.size (nodeVal W0 W1 (rows W u) (rows A u))

/-- The edge list's words are `src` and `dst`. -/
def Words (x : Vec F S2x32 .i32) (src dst : Fin 32 → Fin 16) : Prop :=
  ∀ e : Fin 32, (x (ix2 (0 : Fin 2) e) : BitVec 32).toNat = (src e).val ∧ (x (ix2 (1 : Fin 2) e) : BitVec 32).toNat = (dst e).val

/-- Thirty-two times a word below sixteen does not wrap. -/
theorem muli_toNat {w : BitVec 32} {n : Fin 16} (h : w.toNat = n.val) : (Scalar.indexCast (Scalar.muli w 32#32)).toNat = 32 * n.val := by
  have e : (Scalar.indexCast (Scalar.muli w 32#32) : BitVec 32) = w * 32#32 := rfl
  rw [e, BitVec.toNat_mul, h]
  show n.val * 32 % 2 ^ 32 = _
  omega

theorem off1_eq {w : BitVec 32} {n : Fin 16} (h : w.toNat = n.val) : k0_off1 w = ![32 * n.val, 0] := by
  rw [← muli_toNat h]; rfl
theorem off2_eq {w : BitVec 32} {n : Fin 16} (h : w.toNat = n.val) : k0_off2 w = ![32 * n.val, 0] := by
  rw [← muli_toNat h]; rfl
theorem off3_eq {w : BitVec 32} {n : Fin 16} (h : w.toNat = n.val) : k0_off3 w = ![32 * n.val, 0] := by
  rw [← muli_toNat h]; rfl

/-- A source word below sixteen passes the check made of it. -/
theorem chk1_of {w : BitVec 32} {n : Fin 16} (h : w.toNat = n.val) : k0_chk1 w :=
  ⟨by rw [off1_eq h]; exact inb_node n, by rw [off3_eq h]; exact inb_node n⟩
/-- A destination word below sixteen passes the check made of it. -/
theorem chk2_of {w : BitVec 32} {n : Fin 16} (h : w.toNat = n.val) : k0_chk2 w := by
  unfold k0_chk2; rw [off2_eq h]; exact inb_node n

/-- A one-word read of the edge list is the word at that row and column. -/
theorem word_read {κ : Kind} {sp : Space} (v : View sig κ sp S2x32 .i32) (f : v.ty.Contents (Elt F)) (r : Fin 2) (e : Fin 32) (y) :
    v.readAt (Elt F) (Rect.unit (s := S2x32) ![r.val, e.val] S1x1.size (inb_word r e)).toLoadRect f y = v.read (Elt F) f (ix2 r e) := by
  have h0 : (y 0).val < 1 := (y 0).isLt
  have h1 : (y 1).val < 1 := (y 1).isLt
  rw [View.readAt_apply]
  congr 1
  funext a
  refine Fin.ext ?_
  match a with
  | ⟨0, _⟩ => show r.val + 1 * (y 0).val = r.val; omega
  | ⟨1, _⟩ => show e.val + 1 * (y 1).val = e.val; omega

section

variable (c : Dev nD) (defs : Defs nD τ sig (Elt F) Λ₀) (𝒱 : Variants)
variable (arg0 : Memref sig .tc .vmem S2x32 .i32) (arg1 : Memref sig .tc .smem S2x32 .i32) (arg2 : Memref sig .tc .vmem S200x32 .f32)
  (arg3 : Memref sig .tc .vmem S200x32 .f32) (arg4 : Memref sig .tc .vmem S32 .f32) (arg5 : Memref sig .tc .vmem S512x128 .f32)
  (arg6 : Memref sig .tc .vmem S128 .f32) (arg7 : Memref sig .tc .vmem S3200x128 .f32) (arg8 : Memref sig .tc .vmem S1x128 .f32)
  (arg9 : Memref sig .tc .vmem S512x128 .f32)

/-- What an edge step holds: the edge list and `fc_w` as they are, the scratch at `A`. -/
def edgeState (x : Vec F S2x32 .i32) (W A : Vec F S512x128 .f32) : sProp 𝕄 :=
  iprop(owns (c : Thread nD τ) arg1 fullShare x ∗ owns (c : Thread nD τ) arg5 fullShare W ∗ owns (c : Thread nD τ) arg9 fullShare A)

/-- EDGE STEP: the scratch gets edge `e`'s update, the rest is as it was. -/
theorem edge_run (x : Vec F S2x32 .i32) (src dst : Fin 32 → Fin 16) (hx : Words x src dst) (norm : FVec F S1x32 .f32)
    (W A : Vec F S512x128 .f32) (e : Fin 32) :
    (edgeState c arg1 arg5 arg9 x W A : sProp 𝕄) ⊢
      wp frame (wpE defs 𝒱 (c : Thread nD τ) none) Set.univ (edgeStep arg1 arg5 arg9 norm e)
        (fun _ => edgeState c arg1 arg5 arg9 x W (edgeUpd src dst norm W A e)) := by
  unfold edgeState edgeStep
  iintro ⟨H1, H5, H9⟩
  icases (owns_read (c : Thread nD τ) arg1 x) $$ H1 with ⟨%f1, H1, %e1⟩
  icases (owns_read (c : Thread nD τ) arg5 W) $$ H5 with ⟨%f5, H5, %e5⟩
  icases (owns_read (c : Thread nD τ) arg9 A) $$ H9 with ⟨%f9, H9, %e9⟩
  have hs : ∀ y, (arg1.view.readAt (Elt F) (Rect.unit (s := S2x32) ![0, e.val] S1x1.size (inb_word 0 e)).toLoadRect f1 y : BitVec 32).toNat = (src e).val :=
    fun y => by
      have h := word_read arg1.view f1 0 e y
      rw [e1] at h
      exact (congrArg BitVec.toNat h).trans (hx e).1
  have hd : ∀ y, (arg1.view.readAt (Elt F) (Rect.unit (s := S2x32) ![1, e.val] S1x1.size (inb_word 1 e)).toLoadRect f1 y : BitVec 32).toNat = (dst e).val :=
    fun y => by
      have h := word_read arg1.view f1 1 e y
      rw [e1] at h
      exact (congrArg BitVec.toNat h).trans (hx e).2
  sl_exec (disch := (first | exact chk1_of (hs _) | exact chk2_of (hd _)))
  sl_step
  have ha : edge_run.sl.a c arg1 arg9 src e f1 f9 hs = rows A (src e) := by
    rw [← e9]; exact View.readAt_unit arg9.view f9 _ (off1_eq (hs _)) _
  have hf : edge_run.sl.f c arg1 arg5 dst e f1 f5 hd = rows W (dst e) := by
    rw [← e5]; exact View.readAt_unit arg5.view f5 _ (off2_eq (hd _)) _
  have hr : k0_off3 (edge_run.sl.r c arg1 e f1) = ![32 * (src e).val, 0] := off3_eq (hs _)
  have e9' : ∀ inb : ∀ a, k0_off3 (edge_run.sl.r c arg1 e f1) a + S32x128.size a ≤ S512x128.size a, arg9.view.read (Elt F) (arg9.view.writes (Elt F) f9
      [⟨Rect.unit (s := S512x128) (k0_off3 (edge_run.sl.r c arg1 e f1)) S32x128.size inb,
          edgeVal e norm (edge_run.sl.a c arg1 arg9 src e f1 f9 hs) (edge_run.sl.f c arg1 arg5 dst e f1 f5 hd)⟩]) = edgeUpd src dst norm W A e := fun inb => by
    rw [View.read_writes_cons_put arg9.view f9 inb _ [] hr, View.writes_nil, e9, ha, hf]; rfl
  isplitl [H1]
  · iapply (raw_owns (c : Thread nD τ) arg1 e1); iexact H1
  isplitl [H5]
  · iapply (raw_owns (c : Thread nD τ) arg5 e5); iexact H5
  iapply (raw_owns (c : Thread nD τ) arg9 (e9' _))
  iexact H9

/-- What a node step holds: the folded weight at `G`, `fc_w` and the finished scratch as they are. -/
def nodeState (W A : Vec F S512x128 .f32) (G : Vec F S3200x128 .f32) : sProp 𝕄 :=
  iprop(owns (c : Thread nD τ) arg5 fullShare W ∗ owns (c : Thread nD τ) arg9 fullShare A ∗ owns (c : Thread nD τ) arg7 fullShare G)

/-- NODE STEP: the folded weight gets block `u`'s update; the step's value is the sum so far with `fc_w`'s block added. -/
theorem node_run (W0 W1 : Vec F S200x32 .f32) (W A : Vec F S512x128 .f32) (G : Vec F S3200x128 .f32) (fsum : FVec F S32x128 .f32) (u : Fin 16) :
    (nodeState c arg5 arg7 arg9 W A G : sProp 𝕄) ⊢
      wp frame (wpE defs 𝒱 (c : Thread nD τ) none) Set.univ (nodeStep arg5 arg7 arg9 W0 W1 fsum u)
        (fun v => iprop(⌜v = addf fsum (rows W u)⌝ ∗ nodeState c arg5 arg7 arg9 W A (nodeUpd W0 W1 W A G u))) := by
  unfold nodeState nodeStep
  iintro ⟨H5, H9, H7⟩
  icases (owns_read (c : Thread nD τ) arg5 W) $$ H5 with ⟨%f5, H5, %e5⟩
  icases (owns_read (c : Thread nD τ) arg9 A) $$ H9 with ⟨%f9, H9, %e9⟩
  icases (owns_read (c : Thread nD τ) arg7 G) $$ H7 with ⟨%f7, H7, %e7⟩
  sl_exec
  sl_step
  have ha : arg9.view.readAt (Elt F) (Rect.unit (s := S512x128) ![32 * u.val, 0] S32x128.size (inb_node u)).toLoadRect f9 = rows A u := by
    rw [← e9]; exact View.readAt_unit arg9.view f9 _ rfl _
  have hf : arg5.view.readAt (Elt F) (Rect.unit (s := S512x128) ![32 * u.val, 0] S32x128.size (inb_node u)).toLoadRect f5 = rows W u := by
    rw [← e5]; exact View.readAt_unit arg5.view f5 _ rfl _
  have e7' : arg7.view.read (Elt F) (arg7.view.writes (Elt F) f7
      [⟨Rect.unit ![200 * u.val, 0] S200x128.size (inb_fold u),
          nodeVal W0 W1 (arg5.view.readAt (Elt F) (Rect.unit (s := S512x128) ![32 * u.val, 0] S32x128.size (inb_node u)).toLoadRect f5) (arg9.view.readAt (Elt F) (Rect.unit (s := S512x128) ![32 * u.val, 0] S32x128.size (inb_node u)).toLoadRect f9)⟩]) = nodeUpd W0 W1 W A G u := by
    rw [View.read_writes_cons_put arg7.view f7 _ _ [] rfl, View.writes_nil, e7, ha, hf]; rfl
  isplitr
  · ipureintro; rw [hf]
  isplitl [H5]
  · iapply (raw_owns (c : Thread nD τ) arg5 e5); iexact H5
  isplitl [H9]
  · iapply (raw_owns (c : Thread nD τ) arg9 e9); iexact H9
  iapply (raw_owns (c : Thread nD τ) arg7 e7')
  iexact H7

/-- PROLOGUE: the scratch is cleared; the value is the list of edge weights. -/
theorem prologue_run (x : Vec F S2x32 .i32) (A : Vec F S512x128 .f32) :
    (iprop(owns (c : Thread nD τ) arg0 fullShare x ∗ owns (c : Thread nD τ) arg9 fullShare A) : sProp 𝕄) ⊢
      wp frame (wpE defs 𝒱 (c : Thread nD τ) none) Set.univ (prologue (F := F) arg0 arg9)
        (fun v => iprop(⌜v = normOf x⌝ ∗ owns (c : Thread nD τ) arg0 fullShare x ∗ owns (c : Thread nD τ) arg9 fullShare (k0_pay4 (F := F)))) := by
  unfold prologue
  iintro ⟨H0, H9⟩
  icases (owns_read (c : Thread nD τ) arg0 x) $$ H0 with ⟨%f0, H0, %e0⟩
  icases (owns_read (c : Thread nD τ) arg9 A) $$ H9 with ⟨%f9, H9, %e9⟩
  sl_exec
  sl_step
  have h0 : arg0.view.readAt (Elt F) (Rect.unit (s := S2x32) ![0, 0] S1x32.size inb_S2x32_S1x32_0_0).toLoadRect f0 = window x ![0, 0] S1x32.size inb_S2x32_S1x32_0_0 := by
    rw [← e0]; exact View.readAt_unit arg0.view f0 _ rfl _
  have h1 : arg0.view.readAt (Elt F) (Rect.unit (s := S2x32) ![1, 0] S1x32.size inb_S2x32_S1x32_1_0).toLoadRect f0 = window x ![1, 0] S1x32.size inb_S2x32_S1x32_1_0 := by
    rw [← e0]; exact View.readAt_unit arg0.view f0 _ rfl _
  isplitr
  · ipureintro; rw [h0, h1]; rfl
  isplitl [H0]
  · iapply (raw_owns (c : Thread nD τ) arg0 e0); iexact H0
  iapply (raw_owns (c : Thread nD τ) arg9 (View.read_writes_full arg9.view f9 inb_S512x128_S512x128_0_0 (k0_pay4 (F := F)) []))
  iexact H9

/-- EPILOGUE: the folded bias is written. -/
theorem epilogue_run (cheb : Vec F S32 .f32) (fcb : Vec F S128 .f32) (B : Vec F S1x128 .f32) (fsum : FVec F S32x128 .f32) :
    (iprop(owns (c : Thread nD τ) arg4 fullShare cheb ∗ owns (c : Thread nD τ) arg6 fullShare fcb ∗ owns (c : Thread nD τ) arg8 fullShare B) : sProp 𝕄) ⊢
      wp frame (wpE defs 𝒱 (c : Thread nD τ) none) Set.univ (epilogue arg4 arg6 arg8 fsum)
        (fun _ => iprop(owns (c : Thread nD τ) arg4 fullShare cheb ∗ owns (c : Thread nD τ) arg6 fullShare fcb
          ∗ owns (c : Thread nD τ) arg8 fullShare (k0_pay2 fsum cheb fcb))) := by
  unfold epilogue
  iintro ⟨H4, H6, H8⟩
  icases (owns_read (c : Thread nD τ) arg4 cheb) $$ H4 with ⟨%f4, H4, %e4⟩
  icases (owns_read (c : Thread nD τ) arg6 fcb) $$ H6 with ⟨%f6, H6, %e6⟩
  icases (owns_read (c : Thread nD τ) arg8 B) $$ H8 with ⟨%f8, H8, %e8⟩
  sl_exec
  sl_step
  have h4 : arg4.view.readAt (Elt F) (Rect.unit (s := S32) ![0] S32.size inb_S32_S32_0).toLoadRect f4 = cheb := by
    rw [← e4]; exact View.readAt_full arg4.view f4 _
  have h6 : arg6.view.readAt (Elt F) (Rect.unit (s := S128) ![0] S128.size inb_S128_S128_0).toLoadRect f6 = fcb := by
    rw [← e6]; exact View.readAt_full arg6.view f6 _
  rw [h4, h6]
  isplitl [H4]
  · iapply (raw_owns (c : Thread nD τ) arg4 e4); iexact H4
  isplitl [H6]
  · iapply (raw_owns (c : Thread nD τ) arg6 e6); iexact H6
  iapply (raw_owns (c : Thread nD τ) arg8 (View.read_writes_full arg8.view f8 inb_S1x128_S1x128_0_0 (k0_pay2 fsum cheb fcb) []))
  iexact H8

/-- The two weight matrices read, then the rest at them. -/
theorem weights_run (W0 W1 : Vec F S200x32 .f32) (k : Vec F S200x32 .f32 → Vec F S200x32 .f32 → Prog (TpuEff nD τ sig (Elt F) Λ₀ .tc) PUnit) (Q : PUnit → sProp 𝕄) :
    (iprop(owns (c : Thread nD τ) arg2 fullShare W0 ∗ owns (c : Thread nD τ) arg3 fullShare W1
      ∗ (owns (c : Thread nD τ) arg2 fullShare W0 ∗ owns (c : Thread nD τ) arg3 fullShare W1 -∗ wp frame (wpE defs 𝒱 (c : Thread nD τ) none) Set.univ (k W0 W1) Q)) : sProp 𝕄) ⊢
      wp frame (wpE defs 𝒱 (c : Thread nD τ) none) Set.univ (do
        let W0 : Vec F S200x32 .f32 ← Prog.lift (.load arg2 (Rect.unit (s := S200x32) ![0, 0] S200x32.size inb_S200x32_S200x32_0_0).toLoadRect (View.loadsAt_vmem h_S200x32))
        let W1 : Vec F S200x32 .f32 ← Prog.lift (.load arg3 (Rect.unit (s := S200x32) ![0, 0] S200x32.size inb_S200x32_S200x32_0_0).toLoadRect (View.loadsAt_vmem h_S200x32))
        k W0 W1) Q := by
  iintro ⟨H2, H3, HK⟩
  icases (owns_read (c : Thread nD τ) arg2 W0) $$ H2 with ⟨%f2, H2, %e2⟩
  icases (owns_read (c : Thread nD τ) arg3 W1) $$ H3 with ⟨%f3, H3, %e3⟩
  sl_exec
  have h2 : arg2.view.readAt (Elt F) (Rect.unit (s := S200x32) ![0, 0] S200x32.size inb_S200x32_S200x32_0_0).toLoadRect f2 = W0 := by
    rw [← e2]; exact View.readAt_full arg2.view f2 _
  have h3 : arg3.view.readAt (Elt F) (Rect.unit (s := S200x32) ![0, 0] S200x32.size inb_S200x32_S200x32_0_0).toLoadRect f3 = W1 := by
    rw [← e3]; exact View.readAt_full arg3.view f3 _
  rw [h2, h3]
  iapply HK
  isplitl [H2]
  · iapply (raw_owns (c : Thread nD τ) arg2 e2); iexact H2
  iapply (raw_owns (c : Thread nD τ) arg3 e3); iexact H3

/-- The edges of a list in turn. -/
theorem edges_run (x : Vec F S2x32 .i32) (src dst : Fin 32 → Fin 16) (hx : Words x src dst) (norm : FVec F S1x32 .f32)
    (W : Vec F S512x128 .f32) (k : Prog (TpuEff nD τ sig (Elt F) Λ₀ .tc) PUnit) (Q : PUnit → sProp 𝕄) :
    ∀ (es : List (Fin 32)) (A : Vec F S512x128 .f32),
      iprop(edgeState c arg1 arg5 arg9 x W A
          ∗ (edgeState c arg1 arg5 arg9 x W (es.foldl (edgeUpd src dst norm W) A) -∗ wp frame (wpE defs 𝒱 (c : Thread nD τ) none) Set.univ k Q))
        ⊢ wp frame (wpE defs 𝒱 (c : Thread nD τ) none) Set.univ (edgeSteps arg1 arg5 arg9 norm es k) Q
  | [], A => by
    iintro ⟨H, HK⟩
    iapply HK; iexact H
  | e :: es, A => by
    have ih := edges_run x src dst hx norm W k Q es (edgeUpd src dst norm W A e)
    rw [edgeSteps, wp_bind]
    iintro ⟨H, HK⟩
    iapply (wp_wand_r frame (wpE defs 𝒱 (c : Thread nD τ) none))
    isplitl [H]
    · iapply (edge_run c defs 𝒱 arg1 arg5 arg9 x src dst hx norm W A e); iexact H
    iintro %_ H
    iapply ih
    isplitl [H]
    · iexact H
    iexact HK

/-- The node blocks of a list in turn. -/
theorem nodes_run (W0 W1 : Vec F S200x32 .f32) (W A : Vec F S512x128 .f32) (k : FVec F S32x128 .f32 → Prog (TpuEff nD τ sig (Elt F) Λ₀ .tc) PUnit)
    (Q : PUnit → sProp 𝕄) :
    ∀ (us : List (Fin 16)) (G : Vec F S3200x128 .f32) (fsum : FVec F S32x128 .f32),
      iprop(nodeState c arg5 arg7 arg9 W A G
          ∗ (nodeState c arg5 arg7 arg9 W A (us.foldl (nodeUpd W0 W1 W A) G) -∗
              wp frame (wpE defs 𝒱 (c : Thread nD τ) none) Set.univ (k (us.foldl (fun s u => addf s (rows W u)) fsum)) Q))
        ⊢ wp frame (wpE defs 𝒱 (c : Thread nD τ) none) Set.univ (nodeSteps arg5 arg7 arg9 W0 W1 us fsum k) Q
  | [], G, fsum => by
    iintro ⟨H, HK⟩
    iapply HK; iexact H
  | u :: us, G, fsum => by
    have ih := nodes_run W0 W1 W A k Q us (nodeUpd W0 W1 W A G u) (addf fsum (rows W u))
    rw [nodeSteps, wp_bind]
    iintro ⟨H, HK⟩
    iapply (wp_wand_r frame (wpE defs 𝒱 (c : Thread nD τ) none))
    isplitl [H]
    · iapply (node_run c defs 𝒱 arg5 arg7 arg9 W0 W1 W A G fsum u); iexact H
    iintro %v ⟨%hv, H⟩
    rw [hv]
    iapply ih
    isplitl [H]
    · iexact H
    iexact HK

/-- The scratch once every edge has been added. -/
def messages (x : Vec F S2x32 .i32) (src dst : Fin 32 → Fin 16) (W : Vec F S512x128 .f32) : Vec F S512x128 .f32 :=
  edges.foldl (edgeUpd src dst (normOf x) W) (k0_pay4 (F := F))

/-- The sum of the node blocks of `fc_w`. -/
def blockSum (W : Vec F S512x128 .f32) : FVec F S32x128 .f32 := nodes.foldl (fun s u => addf s (rows W u)) (zero32 (F := F))

/-- The folded weight: row `200 u + t` is row `t` of node block `u`'s value. -/
def folded (W0 W1 : Vec F S200x32 .f32) (W A : Vec F S512x128 .f32) : Vec F S3200x128 .f32 := fun y =>
  have h : (y 0).val < 3200 := (y 0).isLt
  nodeVal W0 W1 (rows W ⟨(y 0).val / 200, by omega⟩) (rows A ⟨(y 0).val / 200, by omega⟩) (ix2 (⟨(y 0).val % 200, Nat.mod_lt _ (by decide)⟩ : Fin 200) (y 1))

/-- The node blocks of a list leave the folded weight at the rows of the list's blocks and the old contents elsewhere. -/
theorem nodeUpds_apply (W0 W1 : Vec F S200x32 .f32) (W A : Vec F S512x128 .f32) (y : S3200x128.Idx) :
    ∀ (us : List (Fin 16)) (G : Vec F S3200x128 .f32), (us.foldl (nodeUpd W0 W1 W A) G) y = folded W0 W1 W A y ∨ (us.foldl (nodeUpd W0 W1 W A) G) y = G y ∧ ∀ u ∈ us, (y 0).val / 200 ≠ u.val
  | [], G => Or.inr ⟨rfl, fun _ h => absurd h List.not_mem_nil⟩
  | u :: us, G => by
    have h0 : (y 0).val < 3200 := (y 0).isLt
    have h1 : (y 1).val < 128 := (y 1).isLt
    rcases nodeUpds_apply W0 W1 W A y us (nodeUpd W0 W1 W A G u) with h | ⟨h, hn⟩
    · exact Or.inl h
    rw [List.foldl_cons, h]
    by_cases hu : (y 0).val / 200 = u.val
    · left
      have hin : ∀ a, (![200 * u.val, 0] : Fin 2 → ℕ) a ≤ (y a).val ∧ (y a).val < (![200 * u.val, 0] : Fin 2 → ℕ) a + S200x128.size a := fun a => match a with
        | ⟨0, _⟩ => by show 200 * u.val ≤ (y 0).val ∧ (y 0).val < 200 * u.val + 200; omega
        | ⟨1, _⟩ => by show 0 ≤ (y 1).val ∧ (y 1).val < 0 + 128; omega
      have hu' : (⟨(y 0).val / 200, by omega⟩ : Fin 16) = u := Fin.ext hu
      unfold nodeUpd put folded
      rw [dif_pos hin]
      simp only [hu']
      congr 1
      funext a
      refine Fin.ext ?_
      match a with
      | ⟨0, _⟩ => show (y 0).val - 200 * u.val = (y 0).val % 200; omega
      | ⟨1, _⟩ => show (y 1).val - 0 = (y 1).val; omega
    · right
      refine ⟨?_, fun v hv => ?_⟩
      · unfold nodeUpd put
        rw [dif_neg]
        intro hin
        have : 200 * u.val ≤ (y 0).val ∧ (y 0).val < 200 * u.val + 200 := hin 0
        omega
      · rcases List.mem_cons.mp hv with rfl | hv
        · exact hu
        · exact hn v hv

/-- All sixteen node blocks leave the folded weight, whatever was there. -/
theorem nodeUpds_all (W0 W1 : Vec F S200x32 .f32) (W A : Vec F S512x128 .f32) (G : Vec F S3200x128 .f32) :
    nodes.foldl (nodeUpd W0 W1 W A) G = folded W0 W1 W A := by
  funext y
  rcases nodeUpds_apply W0 W1 W A y nodes G with h | ⟨_, hn⟩
  · exact h
  have h0 : (y 0).val < 3200 := (y 0).isLt
  have hmem : ∀ u : Fin 16, u ∈ nodes := by decide
  exact absurd rfl (hn ⟨(y 0).val / 200, by omega⟩ (hmem _))

/-- THE FOLD KERNEL: from its arguments it leaves the folded weight and the folded bias. -/
theorem fold_run (x : Vec F S2x32 .i32) (src dst : Fin 32 → Fin 16) (hx : Words x src dst) (W0 W1 : Vec F S200x32 .f32) (cheb : Vec F S32 .f32)
    (W : Vec F S512x128 .f32) (fcb : Vec F S128 .f32) (G : Vec F S3200x128 .f32) (B : Vec F S1x128 .f32) (A : Vec F S512x128 .f32) (Q : PUnit → sProp 𝕄) :
    (iprop((owns (c : Thread nD τ) arg0 fullShare x ∗ owns (c : Thread nD τ) arg1 fullShare x ∗ owns (c : Thread nD τ) arg2 fullShare W0
        ∗ owns (c : Thread nD τ) arg3 fullShare W1 ∗ owns (c : Thread nD τ) arg4 fullShare cheb ∗ owns (c : Thread nD τ) arg5 fullShare W
        ∗ owns (c : Thread nD τ) arg6 fullShare fcb ∗ owns (c : Thread nD τ) arg7 fullShare G ∗ owns (c : Thread nD τ) arg8 fullShare B
        ∗ owns (c : Thread nD τ) arg9 fullShare A)
      ∗ ((owns (c : Thread nD τ) arg0 fullShare x ∗ owns (c : Thread nD τ) arg1 fullShare x ∗ owns (c : Thread nD τ) arg2 fullShare W0
        ∗ owns (c : Thread nD τ) arg3 fullShare W1 ∗ owns (c : Thread nD τ) arg4 fullShare cheb ∗ owns (c : Thread nD τ) arg5 fullShare W
        ∗ owns (c : Thread nD τ) arg6 fullShare fcb ∗ owns (c : Thread nD τ) arg7 fullShare (folded W0 W1 W (messages x src dst W))
        ∗ owns (c : Thread nD τ) arg8 fullShare (k0_pay2 (blockSum W) cheb fcb)
        ∗ owns (c : Thread nD τ) arg9 fullShare (messages x src dst W)) -∗ Q ⟨⟩)) : sProp 𝕄) ⊢
      wp frame (wpE defs 𝒱 (c : Thread nD τ) none) Set.univ (foldProg arg0 arg1 arg2 arg3 arg4 arg5 arg6 arg7 arg8 arg9) Q := by
  rw [foldProg, wp_bind]
  iintro ⟨⟨H0, H1, H2, H3, H4, H5, H6, H7, H8, H9⟩, HK⟩
  iapply (wp_wand_r frame (wpE defs 𝒱 (c : Thread nD τ) none))
  isplitl [H0 H9]
  · iapply (prologue_run c defs 𝒱 arg0 arg9 x A)
    isplitl [H0]
    · iexact H0
    iexact H9
  iintro %v ⟨%hv, H0, H9⟩
  rw [hv]
  iapply (edges_run c defs 𝒱 arg1 arg5 arg9 x src dst hx (normOf x) W _ Q edges (k0_pay4 (F := F)))
  unfold edgeState
  isplitl [H1 H5 H9]
  · isplitl [H1]
    · iexact H1
    isplitl [H5]
    · iexact H5
    iexact H9
  iintro ⟨H1, H5, H9⟩
  iapply (weights_run c defs 𝒱 arg2 arg3 W0 W1 (fun W0 W1 => nodeSteps arg5 arg7 arg9 W0 W1 nodes zero32 (epilogue arg4 arg6 arg8)) Q)
  isplitl [H2]
  · iexact H2
  isplitl [H3]
  · iexact H3
  iintro ⟨H2, H3⟩
  iapply (nodes_run c defs 𝒱 arg5 arg7 arg9 W0 W1 W (messages x src dst W) (epilogue arg4 arg6 arg8) Q nodes G zero32)
  rw [nodeUpds_all]
  unfold nodeState
  isplitl [H5 H9 H7]
  · isplitl [H5]
    · iexact H5
    isplitl [H9]
    · iexact H9
    iexact H7
  iintro ⟨H5, H9, H7⟩
  iapply (wp_wand_r frame (wpE defs 𝒱 (c : Thread nD τ) none))
  isplitl [H4 H6 H8]
  · iapply (epilogue_run c defs 𝒱 arg4 arg6 arg8 cheb fcb B (blockSum W))
    isplitl [H4]
    · iexact H4
    isplitl [H6]
    · iexact H6
    iexact H8
  iintro %_ ⟨H4, H6, H8⟩
  iapply HK
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

end

end Cert.Proof.Fold

end
-- ==== Proof.FoldRegion.lean ====
/- The first region: the fold kernel as the pipeline's one point runs it, from any contents of the buffers it names. -/
module

public import proofs.«01_k».proof.Proof.FoldSteps
public import proofs.«01_k».proof.Proof.Gen.KernelIdeal.Regions
public import proofs.«01_k».proof.Proof.Gen.KernelIdeal.Points
public import Idealize.ShloMosaic.Lib.Pipeline.RegionsLoop
public import Idealize.ShloMosaic.Lib.Pipeline.ValueKit

@[expose] public section

set_option maxRecDepth 16384

noncomputable section

namespace Cert.Proof.Fold

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat BodyObligation)
open Cert.KernelIdeal Cert.KernelIdeal.Gen

variable {F : FTy → Type} [FloatOps F]

/-- The pipeline library's algebra, beside counters the run never moves. -/
abbrev UU : Type := UR sig nD τ × Counters

local notation "𝕄" => MT nD τ sig Unit (Elt F) ℕ UU ℕ

/-- The node a word of the edge list names. -/
def nodeOf (w : BitVec 32) : Fin 16 := ⟨w.toNat % 16, Nat.mod_lt _ (by decide)⟩

/-- Edge `e`'s source and destination. -/
def srcOf (x : Vec F S2x32 .i32) (e : Fin 32) : Fin 16 := nodeOf (x (ValueIdx.ix2 (0 : Fin 2) e))
def dstOf (x : Vec F S2x32 .i32) (e : Fin 32) : Fin 16 := nodeOf (x (ValueIdx.ix2 (1 : Fin 2) e))

/-- Every word of the edge list names a node. -/
def InRange (x : Vec F S2x32 .i32) : Prop := ∀ (r : Fin 2) (e : Fin 32), (x (ValueIdx.ix2 r e) : BitVec 32).toNat < 16

/-- An edge list in range is its sources and its destinations. -/
theorem words_of_inRange {x : Vec F S2x32 .i32} (h : InRange x) : Words x (srcOf x) (dstOf x) := fun e =>
  ⟨(Nat.mod_eq_of_lt (h 0 e)).symm, (Nat.mod_eq_of_lt (h 1 e)).symm⟩

variable (V : Dev nD → Valuation τ sig (Elt F))

/-- What the fetch stages in window `w`: its array's block. -/
abbrev ei0Of (c : Dev nD) : (cfg0.win 0).block.Idx → Elt F (cfg0.win 0).elt := ((cfg0.win 0).blk t0_0).view.read (Elt F) (V c main_arg8)
abbrev ei1Of (c : Dev nD) : (cfg0.win 1).block.Idx → Elt F (cfg0.win 1).elt := ((cfg0.win 1).blk t0_0).view.read (Elt F) (V c main_arg8)
abbrev w0Of (c : Dev nD) : (cfg0.win 2).block.Idx → Elt F (cfg0.win 2).elt := ((cfg0.win 2).blk t0_0).view.read (Elt F) (V c main_arg1)
abbrev w1Of (c : Dev nD) : (cfg0.win 3).block.Idx → Elt F (cfg0.win 3).elt := ((cfg0.win 3).blk t0_0).view.read (Elt F) (V c main_arg2)
abbrev chebOf (c : Dev nD) : (cfg0.win 4).block.Idx → Elt F (cfg0.win 4).elt := ((cfg0.win 4).blk t0_0).view.read (Elt F) (V c main_arg3)
abbrev fcwOf (c : Dev nD) : (cfg0.win 5).block.Idx → Elt F (cfg0.win 5).elt := ((cfg0.win 5).blk t0_0).view.read (Elt F) (V c main_arg4)
abbrev fcbOf (c : Dev nD) : (cfg0.win 6).block.Idx → Elt F (cfg0.win 6).elt := ((cfg0.win 6).blk t0_0).view.read (Elt F) (V c main_arg5)

/-- The folded weight and the folded bias, as functions of what the kernel finds. -/
def weightOut (ei : Vec F S2x32 .i32) (W0 W1 : Vec F S200x32 .f32) (W : Vec F S512x128 .f32) : Vec F S3200x128 .f32 :=
  folded W0 W1 W (messages ei (srcOf ei) (dstOf ei) W)
def biasOut (cheb : Vec F S32 .f32) (W : Vec F S512x128 .f32) (fcb : Vec F S128 .f32) : Vec F S1x128 .f32 :=
  k0_pay2 (blockSum W) cheb fcb

/-- The invariant between the region's ends: the scoped buffers that the pipeline does not stage. -/
abbrev Φ0 (c : Dev nD) : sProp 𝕄 := Pipeline.scopedRest (Ix := Unit) (Name := ℕ) (U := UU) (Lvl := ℕ) (Val := Elt F) spec0 c

/-- The proof data of the first region entered at `V`. -/
def dat0 (c : Dev nD) : Dat τ (Elt F) Unit ℕ UU ℕ cfg0 c where
  A w := V c (Proc.devRef .tc (Pipeline.arrRef spec0 w))
  after w _ := match w with
    | ⟨0, _⟩ => ei0Of V c
    | ⟨1, _⟩ => ei1Of V c
    | ⟨2, _⟩ => w0Of V c
    | ⟨3, _⟩ => w1Of V c
    | ⟨4, _⟩ => chebOf V c
    | ⟨5, _⟩ => fcwOf V c
    | ⟨6, _⟩ => fcbOf V c
    | ⟨7, _⟩ => weightOut (ei0Of V c) (w0Of V c) (w1Of V c) (fcwOf V c)
    | ⟨8, _⟩ => biasOut (chebOf V c) (fcwOf V c) (fcbOf V c)
  Φ _ := Φ0 c
  q := Pipeline.shareOf spec0
  owed _ := 0

/-- A fetched window holds its block when the body runs. -/
theorem before0 (c : Dev nD) (w : Fin cfg0.W) (hw : (cfg0.win w).fetch t0_0 = true) (d) : (dat0 V c).before w t0_0 d = (dat0 V c).fetched w t0_0 d :=
  (dat0 V c).before_fetched w t0_0 hw d

/-- The scratch held whole, as the kernel holds it and as the region does. -/
theorem scratch_owns (c : Dev nD) (f : Buf (Elt F) ((c : Thread nD τ).loc cc0_scratch0)) :
    ((((c : Thread nD τ).loc cc0_scratch0) ↦{fullShare} f : sProp 𝕄)) ⊢ owns (c : Thread nD τ) (Memref.whole cc0_scratch0) fullShare f := by
  rw [owns_whole_eq]
  iintro H
  iexists f
  isplitr; · ipureintro; rfl
  iexact H
theorem owns_scratch (c : Dev nD) (f : S512x128.Idx → Elt F .f32) :
    (owns (c : Thread nD τ) (Memref.whole cc0_scratch0) fullShare f : sProp 𝕄)
      ⊢ iprop(∃ f : Buf (Elt F) ((c : Thread nD τ).loc cc0_scratch0), ((c : Thread nD τ).loc cc0_scratch0) ↦{fullShare} f) := by
  rw [owns_whole_eq]
  iintro ⟨%g, -, H⟩
  iexists g
  iexact H

/-- THE BODY of the first region, the words in range. -/
theorem body0 (hV : ∀ c, InRange (ei0Of V c)) (c : Dev nD) : BodyObligation (dat0 V c) (defs₀ (F := F)) Variants.none () Set.univ := fun t => by
  obtain rfl := fin_N0 t
  rw [bigSep_W0, bigSep_W0]
  rw [show (dat0 V c).Φ t0_0.castSucc = Φ0 c from rfl, show (dat0 V c).Φ t0_0.succ = Φ0 c from rfl,
    show (dat0 V c).owesAt () t0_0.succ = (dat0 V c).owesAt () t0_0.castSucc from rfl]
  show (_ : sProp 𝕄) ⊢ wp frame (wpE (defs₀ (F := F)) Variants.none c none) Set.univ (bodyAt0 (F := F) t0_0) _
  unfold bodyAt0 Φ0
  rw [fold_eq, scopedRest0_eq]
  iintro ⟨⟨⟨%fs, Hs⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have e0 : (dat0 V c).before 0 t0_0 d0 = ei0Of V c := (before0 V c 0 (fetch0_0 _) d0).trans rfl
  have e1 : (dat0 V c).before 1 t0_0 d1 = ei1Of V c := (before0 V c 1 (fetch0_1 _) d1).trans rfl
  have e2 : (dat0 V c).before 2 t0_0 d2 = w0Of V c := (before0 V c 2 (fetch0_2 _) d2).trans rfl
  have e3 : (dat0 V c).before 3 t0_0 d3 = w1Of V c := (before0 V c 3 (fetch0_3 _) d3).trans rfl
  have e4 : (dat0 V c).before 4 t0_0 d4 = chebOf V c := (before0 V c 4 (fetch0_4 _) d4).trans rfl
  have e5 : (dat0 V c).before 5 t0_0 d5 = fcwOf V c := (before0 V c 5 (fetch0_5 _) d5).trans rfl
  have e6 : (dat0 V c).before 6 t0_0 d6 = fcbOf V c := (before0 V c 6 (fetch0_6 _) d6).trans rfl
  ihave O9 := (scratch_owns c fs) $$ Hs
  iapply (fold_run c (defs₀ (F := F)) Variants.none (st0_0 t0_0) (st0_1 t0_0) (st0_2 t0_0) (st0_3 t0_0) (st0_4 t0_0) (st0_5 t0_0) (st0_6 t0_0) (st0_7 t0_0) (st0_8 t0_0)
    (Memref.whole cc0_scratch0) (ei0Of V c) (srcOf (ei0Of V c)) (dstOf (ei0Of V c)) (words_of_inRange (hV c)) (w0Of V c) (w1Of V c) (chebOf V c) (fcwOf V c) (fcbOf V c)
    ((dat0 V c).before 7 t0_0 d7) ((dat0 V c).before 8 t0_0 d8) fs _)
  isplitl [H0 H1 H2 H3 H4 H5 H6 H7 H8 O9]
  · isplitl [H0]; · rw [← e0]; iexact H0
    isplitl [H1]; · rw [show ei0Of V c = ei1Of V c from rfl, ← e1]; iexact H1
    isplitl [H2]; · rw [← e2]; iexact H2
    isplitl [H3]; · rw [← e3]; iexact H3
    isplitl [H4]; · rw [← e4]; iexact H4
    isplitl [H5]; · rw [← e5]; iexact H5
    isplitl [H6]; · rw [← e6]; iexact H6
    isplitl [H7]; · iexact H7
    isplitl [H8]; · iexact H8
    iexact O9
  iintro ⟨H0, H1, H2, H3, H4, H5, H6, H7, H8, H9⟩
  isplitl [H9 Hrest]
  · isplitl [H9]
    · iapply (owns_scratch c (messages (ei0Of V c) (srcOf (ei0Of V c)) (dstOf (ei0Of V c)) (fcwOf V c)))
      iexact H9
    iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Proof.Fold

end
-- ==== Proof.MlpRegion.lean ====
/- The second region: the dense head over each block of 512 rows, from any contents of the buffers it names. -/
module

public import proofs.«01_k».proof.Proof.FoldRegion

@[expose] public section

set_option maxRecDepth 16384

noncomputable section

namespace Cert.Proof.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat BodyObligation)
open Idealize.ShloMosaic.LaneScatter (raw raw_owns)
open Idealize.ShloMosaic.Updates (owns_read)
open Cert.KernelIdeal Cert.KernelIdeal.Gen
open Cert.Proof.Fold (UU)

variable {F : FTy → Type} [FloatOps F]

local notation "𝕄" => MT nD τ sig Unit (Elt F) ℕ UU ℕ

/-- THE HEAD: one block of rows against the folded weight and bias. -/
theorem mlp_run (c : Dev nD) (defs : Defs nD τ sig (Elt F) Λ₀) (𝒱 : Variants) (i : grid1.Coords)
    (arg1 : Memref sig .tc .vmem S512x3200 .f32) (harg1 : arg1.IsWhole) (arg2 : Memref sig .tc .vmem S3200x128 .f32) (harg2 : arg2.IsWhole)
    (arg3 : Memref sig .tc .vmem S1x128 .f32) (harg3 : arg3.IsWhole) (arg4 : Memref sig .tc .vmem S128x1 .f32) (harg4 : arg4.IsWhole)
    (arg5 : Memref sig .tc .vmem S1x1 .f32) (harg5 : arg5.IsWhole) (arg6 : Memref sig .tc .vmem S512x1 .f32) (harg6 : arg6.IsWhole)
    (x : Vec F S512x3200 .f32) (G : Vec F S3200x128 .f32) (b : Vec F S1x128 .f32) (w : Vec F S128x1 .f32) (d : Vec F S1x1 .f32) (o : Vec F S512x1 .f32)
    (Q : PUnit → sProp 𝕄) :
    (iprop((owns (c : Thread nD τ) arg1 fullShare x ∗ owns (c : Thread nD τ) arg2 fullShare G ∗ owns (c : Thread nD τ) arg3 fullShare b
        ∗ owns (c : Thread nD τ) arg4 fullShare w ∗ owns (c : Thread nD τ) arg5 fullShare d ∗ owns (c : Thread nD τ) arg6 fullShare o)
      ∗ ((owns (c : Thread nD τ) arg1 fullShare x ∗ owns (c : Thread nD τ) arg2 fullShare G ∗ owns (c : Thread nD τ) arg3 fullShare b
        ∗ owns (c : Thread nD τ) arg4 fullShare w ∗ owns (c : Thread nD τ) arg5 fullShare d ∗ owns (c : Thread nD τ) arg6 fullShare (k1_pay1 x G b w d)) -∗ Q ⟨⟩)) : sProp 𝕄) ⊢
      wp frame (wpE defs 𝒱 (c : Thread nD τ) none) Set.univ (cc1__mlp_kernel i arg1 harg1 arg2 harg2 arg3 harg3 arg4 harg4 arg5 harg5 arg6 harg6) Q := by
  rw [cc1__mlp_kernel_eq_skeleton]
  unfold cc1__mlp_kernel_skel
  iintro ⟨⟨H1, H2, H3, H4, H5, H6⟩, HK⟩
  icases (owns_read (c : Thread nD τ) arg1 x) $$ H1 with ⟨%f1, H1, %e1⟩
  icases (owns_read (c : Thread nD τ) arg2 G) $$ H2 with ⟨%f2, H2, %e2⟩
  icases (owns_read (c : Thread nD τ) arg3 b) $$ H3 with ⟨%f3, H3, %e3⟩
  icases (owns_read (c : Thread nD τ) arg4 w) $$ H4 with ⟨%f4, H4, %e4⟩
  icases (owns_read (c : Thread nD τ) arg5 d) $$ H5 with ⟨%f5, H5, %e5⟩
  icases (owns_read (c : Thread nD τ) arg6 o) $$ H6 with ⟨%f6, H6, %e6⟩
  sl_exec
  sl_step
  rw [View.readAt_full arg1.view, View.readAt_full arg2.view, View.readAt_full arg3.view, View.readAt_full arg4.view, View.readAt_full arg5.view, e1, e2, e3, e4, e5]
  iapply HK
  isplitl [H1]; · iapply (raw_owns (c : Thread nD τ) arg1 e1); iexact H1
  isplitl [H2]; · iapply (raw_owns (c : Thread nD τ) arg2 e2); iexact H2
  isplitl [H3]; · iapply (raw_owns (c : Thread nD τ) arg3 e3); iexact H3
  isplitl [H4]; · iapply (raw_owns (c : Thread nD τ) arg4 e4); iexact H4
  isplitl [H5]; · iapply (raw_owns (c : Thread nD τ) arg5 e5); iexact H5
  iapply (raw_owns (c : Thread nD τ) arg6 (View.read_writes_full arg6.view f6 inb_S512x1_S512x1_0_0 (k1_pay1 x G b w d) []))
  iexact H6

variable (V : Dev nD → Valuation τ sig (Elt F))

/-- What window `k` is handed at point `t`: its array's block there. -/
abbrev xOf (c : Dev nD) (t : Fin cfg1.N) : (cfg1.win 0).block.Idx → Elt F (cfg1.win 0).elt := ((cfg1.win 0).blk t).view.read (Elt F) (V c main_v0)
abbrev gOf (c : Dev nD) (t : Fin cfg1.N) : (cfg1.win 1).block.Idx → Elt F (cfg1.win 1).elt := ((cfg1.win 1).blk t).view.read (Elt F) (V c main_v2_0)
abbrev bOf (c : Dev nD) (t : Fin cfg1.N) : (cfg1.win 2).block.Idx → Elt F (cfg1.win 2).elt := ((cfg1.win 2).blk t).view.read (Elt F) (V c main_v2_1)
abbrev wOf (c : Dev nD) (t : Fin cfg1.N) : (cfg1.win 3).block.Idx → Elt F (cfg1.win 3).elt := ((cfg1.win 3).blk t).view.read (Elt F) (V c main_arg6)
abbrev dOf (c : Dev nD) (t : Fin cfg1.N) : (cfg1.win 4).block.Idx → Elt F (cfg1.win 4).elt := ((cfg1.win 4).blk t).view.read (Elt F) (V c main_v1)

/-- The invariant between the region's ends: the scoped buffers that the pipeline does not stage. -/
abbrev Φ1 (c : Dev nD) : sProp 𝕄 := Pipeline.scopedRest (Ix := Unit) (Name := ℕ) (U := UU) (Lvl := ℕ) (Val := Elt F) spec1 c

/-- The proof data of the second region entered at `V`. -/
def dat1 (c : Dev nD) : Dat τ (Elt F) Unit ℕ UU ℕ cfg1 c where
  A w := V c (Proc.devRef .tc (Pipeline.arrRef spec1 w))
  after w t := match w with
    | ⟨0, _⟩ => xOf V c t
    | ⟨1, _⟩ => gOf V c t
    | ⟨2, _⟩ => bOf V c t
    | ⟨3, _⟩ => wOf V c t
    | ⟨4, _⟩ => dOf V c t
    | ⟨5, _⟩ => k1_pay1 (xOf V c t) (gOf V c t) (bOf V c t) (wOf V c t) (dOf V c t)
  Φ _ := Φ1 c
  q _ := fullShare
  owed _ := 0

/-- Each input window holds its block when the body runs, fetched there or not. -/
theorem before1_0 (c : Dev nD) (t : Fin cfg1.N) (d) : (dat1 V c).before 0 t d = xOf V c t :=
  ((dat1 V c).before_in_eq_fetched 0 rfl (fun _ => rfl) (fun _ _ _ => rfl) (fun _ => rfl) t d).trans rfl
theorem before1_1 (c : Dev nD) (t : Fin cfg1.N) (d) : (dat1 V c).before 1 t d = gOf V c t :=
  ((dat1 V c).before_in_eq_fetched 1 rfl (fun _ => rfl) (fun _ _ _ => rfl) (fun _ => rfl) t d).trans rfl
theorem before1_2 (c : Dev nD) (t : Fin cfg1.N) (d) : (dat1 V c).before 2 t d = bOf V c t :=
  ((dat1 V c).before_in_eq_fetched 2 rfl (fun _ => rfl) (fun _ _ _ => rfl) (fun _ => rfl) t d).trans rfl
theorem before1_3 (c : Dev nD) (t : Fin cfg1.N) (d) : (dat1 V c).before 3 t d = wOf V c t :=
  ((dat1 V c).before_in_eq_fetched 3 rfl (fun _ => rfl) (fun _ _ _ => rfl) (fun _ => rfl) t d).trans rfl
theorem before1_4 (c : Dev nD) (t : Fin cfg1.N) (d) : (dat1 V c).before 4 t d = dOf V c t :=
  ((dat1 V c).before_in_eq_fetched 4 rfl (fun _ => rfl) (fun _ _ _ => rfl) (fun _ => rfl) t d).trans rfl

/-- THE BODY of the second region. -/
theorem body1 (c : Dev nD) : BodyObligation (dat1 V c) (defs₀ (F := F)) Variants.none () Set.univ := fun t => by
  rw [bigSep_W1, bigSep_W1]
  rw [show (dat1 V c).Φ t.castSucc = Φ1 c from rfl, show (dat1 V c).Φ t.succ = Φ1 c from rfl,
    show (dat1 V c).owesAt () t.succ = (dat1 V c).owesAt () t.castSucc from rfl]
  show (_ : sProp 𝕄) ⊢ wp frame (wpE (defs₀ (F := F)) Variants.none c none) Set.univ (bodyAt1 (F := F) t) _
  unfold bodyAt1
  iintro ⟨HΦ, Howes, ⟨%d0, H0⟩, ⟨%d1, H1⟩, ⟨%d2, H2⟩, ⟨%d3, H3⟩, ⟨%d4, H4⟩, ⟨%d5, H5⟩⟩
  iapply (mlp_run c (defs₀ (F := F)) Variants.none (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    (st1_5 t) (hstage1_5 ((cfg1.slots t 5).cast nbuf1_5)) (xOf V c t) (gOf V c t) (bOf V c t) (wOf V c t) (dOf V c t) ((dat1 V c).before 5 t d5) _)
  isplitl [H0 H1 H2 H3 H4 H5]
  · isplitl [H0]; · rw [← before1_0 V c t d0]; iexact H0
    isplitl [H1]; · rw [← before1_1 V c t d1]; iexact H1
    isplitl [H2]; · rw [← before1_2 V c t d2]; iexact H2
    isplitl [H3]; · rw [← before1_3 V c t d3]; iexact H3
    isplitl [H4]; · rw [← before1_4 V c t d4]; iexact H4
    iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

end Cert.Proof.Mlp

end
-- ==== Proof.Run.lean ====
/- The whole program: the host operations, the fold, the head, and what a run leaves in memory. -/
module

public import proofs.«01_k».proof.Proof.MlpRegion
public import Idealize.ShloMosaic.Lib.Pipeline.Regions

@[expose] public section

set_option maxRecDepth 16384

noncomputable section

namespace Cert.Proof.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)
open Cert.KernelIdeal Cert.KernelIdeal.Gen
open Cert.Proof.Fold (UU InRange ei0Of dat0 body0 Φ0)
open Cert.Proof.Mlp (dat1 body1 Φ1)

variable {F : FTy → Type} [FloatOps F]

local notation "𝕄" => MT nD τ sig Unit (Elt F) ℕ UU ℕ

/-- The pipeline library's algebra is the left component of the run's. -/
abbrev EP : Emb (UR sig nD τ) (MT nD τ sig Unit (Elt F) ℕ UU ℕ) := embL

/-- No core owes another anything: no level is assigned. -/
abbrev L : GSem nD τ sig → Finset Unit := fun _ => ∅
abbrev lv : GSem nD τ sig → Unit → ℕ := fun _ _ => 0

variable (m : (ℓ : Loc nD τ sig) → Buf (Elt F) ℓ)

/-- Core `c`'s buffers after the fold: the two results written over what the host operations left. -/
def X2 (c : Dev nD) : Valuation τ sig (Elt F) :=
  Function.update (Function.update (V1 m c) main_v2_0 ((dat0 (V1 m) c).arrAt 7 cfg0.N)) main_v2_1 ((dat0 (V1 m) c).arrAt 8 cfg0.N)
/-- Core `c`'s buffers after the head. -/
def X3 (c : Dev nD) : Valuation τ sig (Elt F) := Function.update (X2 m c) main_v3 ((dat1 (X2 m) c).arrAt 5 cfg1.N)

theorem X2_weight (c : Dev nD) : X2 m c main_v2_0 = (dat0 (V1 m) c).arrAt 7 cfg0.N := by
  unfold X2
  rw [Function.update_of_ne (StableHlo.devRef_ne_of_ne (by decide)), Function.update_self]
theorem X2_bias (c : Dev nD) : X2 m c main_v2_1 = (dat0 (V1 m) c).arrAt 8 cfg0.N := by
  unfold X2
  rw [Function.update_self]
theorem X2_of (c : Dev nD) (r : Ref sig .tc) (h0 : r ≠ main_v2_0) (h1 : r ≠ main_v2_1) : X2 m c r = V1 m c r := by
  unfold X2
  rw [Function.update_of_ne (StableHlo.devRef_ne_of_ne h1), Function.update_of_ne (StableHlo.devRef_ne_of_ne h0)]
theorem X3_out (c : Dev nD) : X3 m c main_v3 = (dat1 (X2 m) c).arrAt 5 cfg1.N := by
  unfold X3
  rw [Function.update_self]
theorem X3_of (c : Dev nD) (r : Ref sig .tc) (h : r ≠ main_v3) : X3 m c r = X2 m c r := by
  unfold X3
  rw [Function.update_of_ne (StableHlo.devRef_ne_of_ne h)]

/-- A buffer nothing writes ends as launched. -/
theorem X3_kept (c : Dev nD) (r : Ref sig .tc) (h : r ∉ ([main_v0, main_v1, main_v2_0, main_v2_1, main_v3] : List (Ref sig .tc))) :
    X3 m c r = m ((c : Thread nD τ).loc r) := by
  simp only [List.mem_cons, List.not_mem_nil, or_false, not_or] at h
  obtain ⟨h0, h1, h2, h3, h4⟩ := h
  rw [X3_of m c r h4, X2_of m c r h2 h3]
  exact (V1_of m c r (by simp only [hostOps0_W, List.mem_cons, List.not_mem_nil, or_false, not_or]; exact ⟨h0, h1⟩)).trans rfl

/-- Both regions' proof data, each entered at what stands before it. -/
def pdats : (p : Fin 2) → (c : Dev nD) → Dat τ (Elt F) Unit ℕ UU ℕ (cfgs p) c
  | ⟨0, _⟩ => dat0 (V1 m)
  | ⟨1, _⟩ => dat1 (X2 m)

/-- What rides beside the buffers: the core owes nothing. -/
abbrev E (c : Dev nD) : sProp 𝕄 := iprop(∃ W, owes (c : Thread nD τ) (0 : CellTallies nD τ sig Unit) W)

set_option backward.isDefEq.respectTransparency.types false in
/-- THE FOLD over the thread state; two of its inputs read one array. -/
def R0 (hV : ∀ c, InRange (ei0Of (V1 m) c)) : RegionSeg (pcfgs (F := F)) adm (pdats m) () defs₀ Variants.none L lv 0 where
  win := winFacts₀0
  block_pos := launch₀0.block_pos
  stage_whole := launch₀0.stage_whole
  K := PEmpty
  osem k := k.elim
  ho := Pipeline.OwnSemFacts.none _
  hbody c := (body0 (V1 m) hV c).loose
  hwaits := Pipeline.hwaits_of_owed_zero _ _ _ _ L lv 0 fun _ _ => rfl
  pre c := iprop(unscopedBufs c (fun b => V1 m c b) ∗ E c)
  post c := iprop(unscopedBufs c (fun b => X2 m c b) ∗ E c)
  X _ := BI.emp
  Y _ := BI.emp
  Z c := iprop(Pipeline.unscopedRest (Ix := Unit) (Name := ℕ) (U := UU) (Lvl := ℕ) spec0 c (fun b => V1 m c b))
  hentry c := by
    rw [Pipeline.ownSems0_none]
    have hsplit := Pipeline.arrays_of_unscopedBufs_shared (p := 0) (pcfgs (F := F)) adm (pdats m) winFacts₀0 sharedIn0 arr_whole0 c
      (fun _ _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Φ0 c from rfl]
    iintro ⟨-, -, Hr⟩; iexact Hr
  hout c := by
    rw [Pipeline.ownSems0_none, show (pdats m 0 c).Φ (Fin.last _) = Φ0 c from rfl]
    iintro Hr
    isplitr; · iempintro
    isplitr; · iempintro
    iexact Hr
  hexit c := by
    have hjoin := Pipeline.unscopedBufs_of_arrays_shared (p := 0) (pcfgs (F := F)) adm (Ix := Unit) (Name := ℕ) (U := UU) (Lvl := ℕ) winFacts₀0 sharedIn0 arr_whole0 c
      (pdats m) (fun _ _ => rfl) (fun b => V1 m c b) (fun b => X2 m c b) ((pdats m 0 c).arrAt · cfg0.N)
      (fun w => by
        fin_cases w
        · exact ((pdats m 0 c).arrAt_in 0 rfl _).trans (X2_of m c main_arg8 (by decide) (by decide)).symm
        · exact ((pdats m 0 c).arrAt_in 1 rfl _).trans (X2_of m c main_arg8 (by decide) (by decide)).symm
        · exact ((pdats m 0 c).arrAt_in 2 rfl _).trans (X2_of m c main_arg1 (by decide) (by decide)).symm
        · exact ((pdats m 0 c).arrAt_in 3 rfl _).trans (X2_of m c main_arg2 (by decide) (by decide)).symm
        · exact ((pdats m 0 c).arrAt_in 4 rfl _).trans (X2_of m c main_arg3 (by decide) (by decide)).symm
        · exact ((pdats m 0 c).arrAt_in 5 rfl _).trans (X2_of m c main_arg4 (by decide) (by decide)).symm
        · exact ((pdats m 0 c).arrAt_in 6 rfl _).trans (X2_of m c main_arg5 (by decide) (by decide)).symm
        · exact (X2_weight m c).symm
        · exact (X2_bias m c).symm)
      (fun b hb => X2_of m c b (fun h => hb (h ▸ Finset.mem_image.mpr ⟨7, Finset.mem_univ _, rfl⟩))
        (fun h => hb (h ▸ Finset.mem_image.mpr ⟨8, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- THE HEAD over the thread state. -/
def R1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body1 (X2 m) c).loose
  hwaits := Pipeline.hwaits_of_owed_zero _ _ _ _ L lv 1 fun _ _ => rfl
  pre c := iprop(unscopedBufs c (fun b => X2 m c b) ∗ E c)
  post c := iprop(unscopedBufs c (fun b => X3 m c b) ∗ E c)
  X _ := BI.emp
  Y _ := BI.emp
  Z c := iprop(Pipeline.unscopedRest (Ix := Unit) (Name := ℕ) (U := UU) (Lvl := ℕ) spec1 c (fun b => X2 m c b))
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => X2 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Φ1 c from rfl]
    iintro ⟨-, -, Hr⟩; iexact Hr
  hout c := by
    rw [Pipeline.ownSems0_none, show (pdats m 1 c).Φ (Fin.last _) = Φ1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats m) ((pdats m 1 c).share_full fun _ => rfl) (fun b => X2 m c b) (fun b => X3 m c b) ((pdats m 1 c).arrAt · cfg1.N)
      (fun w => by
        fin_cases w
        · exact ((pdats m 1 c).arrAt_in 0 rfl _).trans (X3_of m c main_v0 (by decide)).symm
        · exact ((pdats m 1 c).arrAt_in 1 rfl _).trans (X3_of m c main_v2_0 (by decide)).symm
        · exact ((pdats m 1 c).arrAt_in 2 rfl _).trans (X3_of m c main_v2_1 (by decide)).symm
        · exact ((pdats m 1 c).arrAt_in 3 rfl _).trans (X3_of m c main_arg6 (by decide)).symm
        · exact ((pdats m 1 c).arrAt_in 4 rfl _).trans (X3_of m c main_v1 (by decide)).symm
        · exact (X3_out m c).symm)
      (fun b hb => X3_of m c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The launch's ghost state: the pipeline library's first tokens. -/
def u₀ : UU := (initOf (Pipeline.cells cfgs cellOf_inj) (Pipeline.launchToks cfgs cellOf_inj), 1)

/-- What a run that ends at `s` leaves on core `c`: every unscoped buffer as the last segment left it. -/
def Ends (c : Dev nD) (s : MemSt nD τ sig (Elt F)) : Prop :=
  ∀ r : Ref sig .tc, ¬ (Proc.devRef .tc r : DevRef τ sig).isScoped → s.mem ((c : Thread nD τ).loc r) = X3 m c r

set_option backward.isDefEq.respectTransparency.types false in
/-- THE RUN: from any memory whose edge list is in range and zero counters, every weakly fair execution of the program terminates, with every
    unscoped buffer at what the segments leave and every counter at zero. -/
theorem run (ρ : Dev nD → PrngReg) (hV : ∀ c, InRange (ei0Of (V1 m) c)) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj EP defs₀ Variants.none L lv m ρ main
    (segs m Variants.none L lv (fun _ => E) () (pdats m) (R0 m hV) (R1 m))
    (fun c Q => by
      rewrite [main_chain c, Seg.run_eq_chain,
        show (segs m Variants.none L lv (fun _ => E) () (pdats m) (R0 m hV) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp)) (u₀ := u₀)
    (hu₀ := ?_)
    (T₀ := fun c => iprop(StableHlo.held (c : Thread nD τ) (Pipeline.ucRefs τ sig) (V0 m c) ∗ E c))
    (Tₙ := fun c => StableHlo.held (c : Thread nD τ) (Pipeline.ucRefs τ sig) (X3 m c))
    (hch := fun c => ⟨.rfl, ?_, .rfl, ?_⟩)
    (hinit := ?_) (QY := fun c s => Ends m c s) (hfin := fun c s' => ?_)
    (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · exact sep_mono (Entails.of_eq (Pipeline.unscopedBufs_held (Ix := Unit) (Name := ℕ) (U := UU) (Lvl := ℕ) c (V1 m c)).symm) .rfl
  · exact sep_mono (Entails.of_eq (Pipeline.unscopedBufs_held (Ix := Unit) (Name := ℕ) (U := UU) (Lvl := ℕ) c (X3 m c))) .rfl
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (X3 m c) s') $$ [Hh HSI]
    · isplitl [Hh] <;> iassumption
    icases Hr with ⟨%h, HSI⟩
    imodintro
    isplitr
    · ipureintro
      exact fun r hr => h (Proc.devRef .tc r) (Finset.mem_filter.mpr ⟨StableHlo.devRef_mem_tcRefs r, hr⟩)
    · iexact HSI

end Cert.Proof.Run

end
-- ==== Proof.Arrays.lean ====
/- What each array holds when the program ends, as a function of the arguments. -/
module

public import proofs.«01_k».proof.Proof.Run

@[expose] public section

set_option maxRecDepth 16384

noncomputable section

namespace Cert.Proof.Run

open Idealize.ShloMosaic Idealize.ShloMosaic.TcCoe
open Idealize.SL.Sem
open Idealize.ShloMosaic.Pipeline (Dat)
open Cert.KernelIdeal Cert.KernelIdeal.Gen
open Cert.Proof.Fold (UU InRange ei0Of ei1Of w0Of w1Of chebOf fcwOf fcbOf dat0 weightOut biasOut)
open Cert.Proof.Mlp (dat1 xOf gOf bOf wOf dOf)

variable {F : FTy → Type} [FloatOps F]
variable (V : Dev nD → Valuation τ sig (Elt F))

/-- The edge list a body is handed is the whole array. -/
theorem ei0_eq (c : Dev nD) :
    (ei0Of V c : S2x32.Idx → Elt F .i32) = V c main_arg8 := by
  have e : win0_0.index t0_0 = ![0, 0] := by decide +kernel
  funext y
  blk_simp [ei0Of]
  refine congrArg (V c main_arg8) ?_
  blk_ext [e]

/-- The edge list, as the second window on it hands it over, a body is handed is the whole array. -/
theorem ei1_eq (c : Dev nD) :
    (ei1Of V c : S2x32.Idx → Elt F .i32) = V c main_arg8 := by
  have e : win0_1.index t0_0 = ![0, 0] := by decide +kernel
  funext y
  blk_simp [ei1Of]
  refine congrArg (V c main_arg8) ?_
  blk_ext [e]

/-- The weight of the features a body is handed is the whole array. -/
theorem w0_eq (c : Dev nD) :
    (w0Of V c : S200x32.Idx → Elt F .f32) = V c main_arg1 := by
  have e : win0_2.index t0_0 = ![0, 0] := by decide +kernel
  funext y
  blk_simp [w0Of]
  refine congrArg (V c main_arg1) ?_
  blk_ext [e]

/-- The weight of the messages a body is handed is the whole array. -/
theorem w1_eq (c : Dev nD) :
    (w1Of V c : S200x32.Idx → Elt F .f32) = V c main_arg2 := by
  have e : win0_3.index t0_0 = ![0, 0] := by decide +kernel
  funext y
  blk_simp [w1Of]
  refine congrArg (V c main_arg2) ?_
  blk_ext [e]

/-- The graph layer's bias a body is handed is the whole array. -/
theorem cheb_eq (c : Dev nD) :
    (chebOf V c : S32.Idx → Elt F .f32) = V c main_arg3 := by
  have e : win0_4.index t0_0 = ![0] := by decide +kernel
  funext y
  blk_simp [chebOf]
  refine congrArg (V c main_arg3) ?_
  blk_ext [e]

/-- The fold's weight a body is handed is the whole array. -/
theorem fcw_eq (c : Dev nD) :
    (fcwOf V c : S512x128.Idx → Elt F .f32) = V c main_arg4 := by
  have e : win0_5.index t0_0 = ![0, 0] := by decide +kernel
  funext y
  blk_simp [fcwOf]
  refine congrArg (V c main_arg4) ?_
  blk_ext [e]

/-- The fold's bias a body is handed is the whole array. -/
theorem fcb_eq (c : Dev nD) :
    (fcbOf V c : S128.Idx → Elt F .f32) = V c main_arg5 := by
  have e : win0_6.index t0_0 = ![0] := by decide +kernel
  funext y
  blk_simp [fcbOf]
  refine congrArg (V c main_arg5) ?_
  blk_ext [e]

/-- The folded weight a body is handed is the whole array. -/
theorem g_eq (c : Dev nD) (t : Fin cfg1.N) :
    (gOf V c t : S3200x128.Idx → Elt F .f32) = V c main_v2_0 := by
  have e := (by decide +kernel : ∀ t : Fin grid1.N, win1_1.index t = ![0, 0]) t
  funext y
  blk_simp [gOf]
  refine congrArg (V c main_v2_0) ?_
  blk_ext [e]

/-- The folded bias a body is handed is the whole array. -/
theorem b_eq (c : Dev nD) (t : Fin cfg1.N) :
    (bOf V c t : S1x128.Idx → Elt F .f32) = V c main_v2_1 := by
  have e := (by decide +kernel : ∀ t : Fin grid1.N, win1_2.index t = ![0, 0]) t
  funext y
  blk_simp [bOf]
  refine congrArg (V c main_v2_1) ?_
  blk_ext [e]

/-- The head's weight a body is handed is the whole array. -/
theorem w_eq (c : Dev nD) (t : Fin cfg1.N) :
    (wOf V c t : S128x1.Idx → Elt F .f32) = V c main_arg6 := by
  have e := (by decide +kernel : ∀ t : Fin grid1.N, win1_3.index t = ![0, 0]) t
  funext y
  blk_simp [wOf]
  refine congrArg (V c main_arg6) ?_
  blk_ext [e]

/-- The head's bias a body is handed is the whole array. -/
theorem d_eq (c : Dev nD) (t : Fin cfg1.N) :
    (dOf V c t : S1x1.Idx → Elt F .f32) = V c main_v1 := by
  have e := (by decide +kernel : ∀ t : Fin grid1.N, win1_4.index t = ![0, 0]) t
  funext y
  blk_simp [dOf]
  refine congrArg (V c main_v1) ?_
  blk_ext [e]

/-- The folded weight's array after the fold. -/
theorem weight_arr (c : Dev nD) : ((dat0 V c).arrAt 7 cfg0.N : S3200x128.Idx → Elt F .f32)
    = weightOut (ei0Of V c) (w0Of V c) (w1Of V c) (fcwOf V c) := by
  refine (dat0 V c).arrAt_eq_of_after_last 7 t0_0 (by decide +kernel) _ fun j => ?_
  blk_simp
  exact congrFun (by rfl : (dat0 V c).after 7 t0_0
    = weightOut (ei0Of V c) (w0Of V c) (w1Of V c) (fcwOf V c)) j

/-- The folded bias's array after the fold. -/
theorem bias_arr (c : Dev nD) : ((dat0 V c).arrAt 8 cfg0.N : S1x128.Idx → Elt F .f32)
    = biasOut (chebOf V c) (fcwOf V c) (fcbOf V c) := by
  refine (dat0 V c).arrAt_eq_of_after_last 8 t0_0 (by decide +kernel) _ fun j => ?_
  blk_simp
  exact congrFun (by rfl : (dat0 V c).after 8 t0_0
    = biasOut (chebOf V c) (fcwOf V c) (fcbOf V c)) j

/-- The head's rows: row `i` of the result is row `i % 512` of what the body makes of the block `i / 512`
    of the features. -/
def headRows (x : S4096x3200.Idx → Elt F .f32) (G : S3200x128.Idx → Elt F .f32)
    (b : S1x128.Idx → Elt F .f32) (w : S128x1.Idx → Elt F .f32) (d : S1x1.Idx → Elt F .f32) :
    S4096x1.Idx → Elt F .f32 := fun y =>
  k1_pay1 (fun z : S512x3200.Idx => x (ValueIdx.ix2 (⟨512 * ((y 0).val / 512) + (z 0).val, by
      have h0 : (y 0).val < 4096 := (y 0).isLt
      have h1 : (z 0).val < 512 := (z 0).isLt
      omega⟩) (z 1)))
    G b w d (ValueIdx.ix2 (⟨(y 0).val % 512, Nat.mod_lt _ (by decide)⟩) (y 1))

/-- The result's array after the head. -/
theorem head_arr (c : Dev nD) : ((dat1 V c).arrAt 5 cfg1.N : S4096x1.Idx → Elt F .f32)
    = headRows (V c main_v0) (V c main_v2_0) (V c main_v2_1) (V c main_arg6) (V c main_v1) := by
  refine (dat1 V c).arrAt_eq_of_covers 5 _ (by decide +kernel) fun t hf y => ?_
  blk_simp
  have e5 := (by decide +kernel : ∀ t : Fin grid1.N, win1_5.index t = ![t.val, 0]) t
  have e0 := (by decide +kernel : ∀ t : Fin grid1.N, win1_0.index t = ![t.val, 0]) t
  refine (congrFun (by rfl : (dat1 V c).after 5 t
    = k1_pay1 (xOf V c t) (gOf V c t) (bOf V c t) (wOf V c t) (dOf V c t)) y).trans ?_
  have h0 : (((win1_5.blk t).view.emb y 0 : Fin _) : ℕ) = t.val * 512 + (y 0).val := by blk_simp [e5]
  have h1 : (((win1_5.blk t).view.emb y 1 : Fin _) : ℕ) = (y 1).val := by blk_simp [e5]
  have hy : (y 0).val < 512 := (y 0).isLt
  show _ = k1_pay1 _ _ _ _ _ _
  rw [g_eq, b_eq, w_eq, d_eq]
  refine congr (congrArg (fun X => k1_pay1 X (V c main_v2_0) (V c main_v2_1) (V c main_arg6) (V c main_v1)) ?_) ?_
  · funext z
    blk_simp [xOf]
    refine congrArg (V c main_v0) ?_
    funext a
    refine Fin.ext ?_
    match a with
    | ⟨0, _⟩ =>
      refine Eq.trans (b := t.val * 512 + (z 0).val) (by blk_simp [e0]; rfl) ?_
      show _ = 512 * ((win1_5.index t 0 * 512 + (y 0).val) / 512) + (z 0).val
      rw [show win1_5.index t 0 = t.val from congrFun e5 0]
      omega
    | ⟨1, _⟩ => exact Eq.trans (b := (z 1).val) (by blk_simp [e0]; rfl) rfl
  · funext a
    refine Fin.ext ?_
    match a with
    | ⟨0, _⟩ =>
      show (y 0).val = ((win1_5.blk t).view.emb y 0 : Fin _).val % 512
      rw [h0]
      omega
    | ⟨1, _⟩ => exact h1.symm

end Cert.Proof.Run

end
-- ==== Proof.KernelRun.lean ====
/- The program as printed for the machine's words is the text that the run is proved of. -/
module

public import proofs.«01_k».proof.Kernel
public import proofs.«01_k».proof.KernelIdeal
public import proofs.«01_k».proof.Proof.Gen.Kernel
public import proofs.«01_k».proof.Proof.Gen.KernelIdeal

@[expose] public section

set_option maxRecDepth 65536

noncomputable section

namespace Cert.Proof.Run

open Idealize.ShloMosaic Idealize.SL.Sem

variable {F : FTy → Type} [FloatOps F]

set_option maxHeartbeats 4000000 in
/-- The fold kernel of either printing is the other's. -/
theorem fold_same : @Cert.Kernel.cc0__fold_kernel F _ Cert.Kernel.Gen.facts = @Cert.KernelIdeal.cc0__fold_kernel F _ Cert.KernelIdeal.Gen.facts := by
  unfold Cert.Kernel.cc0__fold_kernel Cert.KernelIdeal.cc0__fold_kernel
  with_unfolding_all rfl

/-- So is the head. -/
theorem mlp_same : @Cert.Kernel.cc1__mlp_kernel F _ Cert.Kernel.Gen.facts = @Cert.KernelIdeal.cc1__mlp_kernel F _ Cert.KernelIdeal.Gen.facts := rfl

/-- So are the kernels' definitions, and the whole program's. -/
theorem defs₀_same : @Cert.Kernel.defs₀ F _ Cert.Kernel.Gen.facts = @Cert.KernelIdeal.defs₀ F _ Cert.KernelIdeal.Gen.facts := by
  unfold Cert.Kernel.defs₀ Cert.KernelIdeal.defs₀
  rw [fold_same, mlp_same]
  refine congrArg (Defs.onTc (nD := Cert.KernelIdeal.nD) (τ := Cert.KernelIdeal.τ) (sig := Cert.KernelIdeal.sig) (Val := Elt F) (Λ := Cert.KernelIdeal.Λ₀)) (funext fun k => funext fun a => ?_)
  match k, a with
  | ⟨0, _⟩, (t, s) => with_unfolding_all rfl
  | ⟨1, _⟩, (t, s) => with_unfolding_all rfl
theorem defs_same : @Cert.Kernel.defs F _ Cert.Kernel.Gen.facts = @Cert.KernelIdeal.defs F _ Cert.KernelIdeal.Gen.facts := by
  unfold Cert.Kernel.defs Cert.KernelIdeal.defs
  rw [defs₀_same]
  with_unfolding_all rfl
theorem main_same : Cert.Kernel.main (F := F) = Cert.KernelIdeal.main (F := F) := by
  unfold Cert.Kernel.main Cert.KernelIdeal.main
  with_unfolding_all rfl

end Cert.Proof.Run

end
-- ==== Proof.Frames.lean ====
/- Each program's run keeps its arguments and ends with every counter at zero. -/
module

public import proofs.«01_k».proof.Defs
public import proofs.«01_k».proof.Proof.Arrays
public import proofs.«01_k».proof.Proof.KernelRun
public import proofs.«01_k».proof.Proof.Gen.Pre_edges_in_range
public import proofs.«01_k».proof.Proof.Gen.ReferenceIdeal
public import proofs.«01_k».proof.Proof.Gen.ReferenceIdeal.Run
public import Idealize.ShloMosaic.Lib.ReduceAll
public import Idealize.ShloMosaic.Lib.StableHlo.Predicate

@[expose] public section

set_option maxRecDepth 16384

noncomputable section

namespace Cert.Proof.Run

open Idealize.ShloMosaic Idealize.ShloMosaic.TcCoe
open Idealize.SL.Sem
open Cert.KernelIdeal Cert.KernelIdeal.Gen
open Cert.Proof.Fold (InRange ei0Of)

variable {F : FTy → Type} [FloatOps F]

/-- A word between 0 and 16, read signed, is one of the sixteen numbers below 16. -/
theorem word_lt (w : BitVec 32)
    (h : IntOp.andi (IntOp.cmpi .sge w 0#32) (IntOp.cmpi .slt w 16#32) = 1#1) : w.toNat < 16 := by
  obtain ⟨h0, h1⟩ := IntOp.andi_eq_one.1 h
  have h0 := IntOp.cmpi_sge.1 h0
  have h1 := IntOp.cmpi_slt.1 h1
  have e0 : (0#32 : BitVec 32).toInt = 0 := by decide
  have e1 : (16#32 : BitVec 32).toInt = 16 := by decide
  rw [e0] at h0
  rw [e1] at h1
  rw [BitVec.toInt_eq_toNat_cond] at h0 h1
  have := w.isLt
  split at h0 <;> omega

/-- The range precondition, read at a word of the edge list. -/
theorem edges_of_pre (x0 : FVec F S4096x16x200 .f32) (x1 x2 : FVec F S200x32 .f32) (x3 : FVec F S32 .f32)
    (x4 : FVec F S512x128 .f32) (x5 : FVec F S128 .f32) (x6 : FVec F S128x1 .f32) (x7 : FVec F S1 .f32) (x8 : IVec S2x32 32)
    (h : @Cert.Pre_edges_in_range.fn Cert.Pre_edges_in_range.Gen.facts F _ x0 x1 x2 x3 x4 x5 x6 x7 x8 = fun _ => 1#1) :
    InRange (F := F) x8 := by
  intro r e
  exact word_lt _ (congrFun h (ValueIdx.ix2 r e))

/-- The words that the fold reads are the argument's, so a range on the argument is one on what it reads. -/
theorem inRange_of_arg (m : (ℓ : Loc nD τ sig) → Buf (Elt F) ℓ) (c : Dev nD)
    (h : InRange (F := F) (m ((c : Thread nD τ).loc main_arg8) : S2x32.Idx → BitVec 32)) : InRange (ei0Of (V1 m) c) := by
  have e : (ei0Of (V1 m) c : S2x32.Idx → BitVec 32) = m ((c : Thread nD τ).loc main_arg8) :=
    (ei0_eq (V1 m) c).trans ((V1_of m c main_arg8 (by decide)).trans rfl)
  intro r k
  have := h r k
  rw [← e] at this
  exact this

/-- The run with its arguments kept and its counters at zero. -/
theorem run_kept (m : (ℓ : Loc nD τ sig) → Buf (Elt F) ℓ) (ρ : Dev nD → PrngReg)
    (h : ∀ c : Dev nD, InRange (F := F) (m ((c : Thread nD τ).loc main_arg8) : S2x32.Idx → BitVec 32)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run _ _ _).mono (fun r hr => ⟨fun c => ?_, hr.2⟩) (run m ρ fun c => inRange_of_arg m c (h c))
  have k := hr.1 c
  exact ⟨(k main_arg0 (by decide)).trans (X3_kept m c main_arg0 (by decide)),
    (k main_arg1 (by decide)).trans (X3_kept m c main_arg1 (by decide)),
    (k main_arg2 (by decide)).trans (X3_kept m c main_arg2 (by decide)),
    (k main_arg3 (by decide)).trans (X3_kept m c main_arg3 (by decide)),
    (k main_arg4 (by decide)).trans (X3_kept m c main_arg4 (by decide)),
    (k main_arg5 (by decide)).trans (X3_kept m c main_arg5 (by decide)),
    (k main_arg6 (by decide)).trans (X3_kept m c main_arg6 (by decide)),
    (k main_arg7 (by decide)).trans (X3_kept m c main_arg7 (by decide)),
    (k main_arg8 (by decide)).trans (X3_kept m c main_arg8 (by decide))⟩

/-- The frame of the program read over the extended reals. -/
theorem frame_KernelIdeal : @Cert.quiescent_KernelIdeal Cert.KernelIdeal.Gen.facts Cert.Pre_edges_in_range.Gen.facts :=
  fun m g hp => run_kept m g fun c => edges_of_pre _ _ _ _ _ _ _ _ _ (hp c)

set_option backward.isDefEq.respectTransparency.types false in
/-- The frame of the program as printed for the machine's words: its text is the other's. -/
theorem frame_Kernel : @Cert.quiescent_Kernel Cert.Kernel.Gen.facts Cert.Pre_edges_in_range.Gen.facts := by
  intro m g hp
  rw [defs_same, main_same]
  exact run_kept (F := Bits) m g fun c => edges_of_pre _ _ _ _ _ _ _ _ _ (hp c)

/-- The reference's frame. -/
theorem frame_ReferenceIdeal : @Cert.quiescent_ReferenceIdeal Cert.ReferenceIdeal.Gen.facts :=
  fun m g _ => (θ_run Cert.ReferenceIdeal.defs _ _).mono (fun r h => ⟨fun c => (h c).2,
      Idealize.ShloMosaic.sem_eq_zero_of_no_sems (by decide) r.2⟩)
    (Cert.ReferenceIdeal.Value.run (F := Ideal) m g)

end Cert.Proof.Run

end
-- ==== Proof.Graph.lean ====
/- The mathematics of the two programs: a graph's edge weights, and the law that carries the weights of one program to
   the node features of the other. -/
module

public import Idealize.ShloMosaic.PureOps.Ideal.Laws

@[expose] public section

noncomputable section

namespace Cert.Proof.Graph

open scoped BigOperators

/-- The number of edges that leave node `n`. -/
def degree (s : Fin 32 → Fin 16) (n : Fin 16) : ℝ := ∑ e : Fin 32, if s e = n then 1 else 0

/-- One over the square root of a node's degree, zero at a node that no edge leaves. -/
def invRoot (s : Fin 32 → Fin 16) (n : Fin 16) : ℝ := if 0 < degree s n then (Real.sqrt (degree s n))⁻¹ else 0

/-- The weight of edge `e`. -/
def weight (s d : Fin 32 → Fin 16) (e : Fin 32) : ℝ := -(invRoot s (s e) * invRoot s (d e))

/-- A sum over the nodes of the edges that start there is the sum over the edges. -/
theorem sum_over_ends {ι : Type} [Fintype ι] [DecidableEq ι] {n : ℕ} (s : Fin n → ι) (a : ι → Fin n → ℝ) :
    (∑ v, ∑ e, if s e = v then a v e else 0) = ∑ e, a (s e) e := by
  rw [Finset.sum_comm]
  refine Finset.sum_congr rfl fun e _ => ?_
  rw [Finset.sum_ite_eq]
  simp

/-- The messages moved from the features to the dense weights: folding the graph into the weights, block of rows by
    block of rows, gives what the graph convolution followed by the dense layer gives. -/
theorem fold_eq (s d : Fin 32 → Fin 16) (w : Fin 32 → ℝ) (x : Fin 16 → Fin 200 → ℝ) (p q : Fin 200 → Fin 32 → ℝ)
    (c : Fin 32 → ℝ) (f : Fin 16 → Fin 32 → ℝ) :
    (∑ v, ∑ t, x v t * ((∑ g, p t g * f v g) + ∑ g, q t g * ∑ e, if s e = v then w e * f (d e) g else 0))
        + ∑ g, c g * ∑ v, f v g
      = ∑ v, ∑ g, (((∑ t, x v t * p t g) + ∑ t, (∑ e, if d e = v then w e * x (s e) t else 0) * q t g) + c g) * f v g := by
  have h1 : ∀ v, (∑ t, x v t * ∑ g, p t g * f v g) = ∑ g, (∑ t, x v t * p t g) * f v g := fun v => by
    simp only [Finset.mul_sum, Finset.sum_mul]
    rw [Finset.sum_comm]
    exact Finset.sum_congr rfl fun g _ => Finset.sum_congr rfl fun t _ => (mul_assoc _ _ _).symm
  have h2l : (∑ v, ∑ t, x v t * ∑ g, q t g * ∑ e, if s e = v then w e * f (d e) g else 0)
      = ∑ e, ∑ t, ∑ g, x (s e) t * (q t g * (w e * f (d e) g)) := by
    rw [← sum_over_ends s fun v e => ∑ t, ∑ g, x v t * (q t g * (w e * f (d e) g))]
    refine Finset.sum_congr rfl fun v _ => ?_
    simp only [Finset.mul_sum, mul_ite, mul_zero]
    rw [Finset.sum_congr rfl fun t _ => Finset.sum_comm, Finset.sum_comm]
    refine Finset.sum_congr rfl fun e _ => ?_
    split <;> simp
  have h2r : (∑ v, ∑ g, (∑ t, (∑ e, if d e = v then w e * x (s e) t else 0) * q t g) * f v g)
      = ∑ e, ∑ t, ∑ g, x (s e) t * (q t g * (w e * f (d e) g)) := by
    have : (∑ e, ∑ t, ∑ g, x (s e) t * (q t g * (w e * f (d e) g)))
        = ∑ e, (fun v e => ∑ g, ∑ t, w e * x (s e) t * q t g * f v g) (d e) e := by
      refine Finset.sum_congr rfl fun e _ => ?_
      rw [Finset.sum_comm]
      exact Finset.sum_congr rfl fun g _ => Finset.sum_congr rfl fun t _ => by ring
    rw [this, ← sum_over_ends d fun v e => ∑ g, ∑ t, w e * x (s e) t * q t g * f v g]
    refine Finset.sum_congr rfl fun v _ => ?_
    simp only [Finset.sum_mul, ite_mul, zero_mul]
    rw [Finset.sum_congr rfl fun g _ => Finset.sum_comm, Finset.sum_comm]
    refine Finset.sum_congr rfl fun e _ => ?_
    split <;> simp
  have h3 : (∑ g, c g * ∑ v, f v g) = ∑ v, ∑ g, c g * f v g := by
    simp only [Finset.mul_sum]
    exact Finset.sum_comm
  simp only [mul_add, add_mul, Finset.sum_add_distrib]
  rw [Finset.sum_congr rfl fun v _ => h1 v, h2l, h2r, h3]

/-- A sum of real numbers, taken among the extended reals. -/
theorem coe_sum {ι : Type} (t : Finset ι) (r : ι → ℝ) : (∑ i ∈ t, (r i : EReal)) = ((∑ i ∈ t, r i : ℝ) : EReal) := by
  classical
  induction t using Finset.induction_on with
  | empty => rfl
  | insert i t h ih => rw [Finset.sum_insert h, Finset.sum_insert h, ih, EReal.coe_add]

/-- A choice between a real number and zero. -/
theorem coe_ite (P : Prop) [Decidable P] (r : ℝ) : (if P then (r : EReal) else 0) = ((if P then r else 0 : ℝ) : EReal) := by
  split <;> rfl

/-- The law among the extended reals, at real factors and with any last summand. -/
theorem fold_eq_ereal (s d : Fin 32 → Fin 16) (w : Fin 32 → ℝ) (x : Fin 16 → Fin 200 → ℝ) (p q : Fin 200 → Fin 32 → ℝ)
    (c : Fin 32 → ℝ) (f : Fin 16 → Fin 32 → ℝ) (b : EReal) :
    (∑ v, ∑ t, (x v t : EReal) * ((∑ g, (p t g : EReal) * f v g) + ∑ g, (q t g : EReal) * ∑ e, if s e = v then (w e : EReal) * f (d e) g else 0))
        + ((∑ g, (c g : EReal) * ∑ v, (f v g : EReal)) + b)
      = (∑ v, ∑ g, (((∑ t, (x v t : EReal) * p t g) + ∑ t, (∑ e, if d e = v then (w e : EReal) * x (s e) t else 0) * q t g) + c g) * f v g) + b := by
  rw [← add_assoc]
  congr 1
  simp only [← EReal.coe_mul, ← EReal.coe_add, coe_ite, coe_sum]
  exact congrArg _ (fold_eq s d w x p q c f)

/-- A sum over `m` blocks of `n`, block by block. -/
theorem sum_blocks {m n N : ℕ} (h : N = m * n) (f : Fin N → EReal) :
    (∑ k, f k) = ∑ v : Fin m, ∑ g : Fin n, f ⟨n * v.val + g.val, by
      rw [h]
      calc n * v.val + g.val < n * v.val + n := by have := g.isLt; omega
        _ = n * (v.val + 1) := by ring
        _ ≤ n * m := Nat.mul_le_mul_left n v.isLt
        _ = m * n := Nat.mul_comm n m⟩ := by
  subst h
  rw [← Equiv.sum_comp finProdFinEquiv f, Fintype.sum_prod_type]
  refine Finset.sum_congr rfl fun v _ => Finset.sum_congr rfl fun g _ => congrArg f (Fin.ext ?_)
  exact Nat.add_comm _ _

/-- The last two layers: the positive part, the weighted sum of it with the bias, and the sigmoid. -/
def head (lat w : Fin 128 → EReal) (d : EReal) : EReal :=
  Idealize.ShloMosaic.Ideal.logistic ((∑ h, max (lat h) 0 * w h) + d)

/-- A chosen reciprocal square root of a degree, zero where the degree is. -/
theorem pick_invRoot (s : Fin 32 → Fin 16) (n : Fin 16) (r : EReal)
    (hr : 0 < degree s n → r = (((Real.sqrt (degree s n))⁻¹ : ℝ) : EReal)) :
    Idealize.ShloMosaic.Scalar.select (Idealize.ShloMosaic.Ideal.cmp .ogt (degree s n : EReal) 0) r 0 = (invRoot s n : EReal) := by
  unfold invRoot Idealize.ShloMosaic.Ideal.cmp
  by_cases h : 0 < degree s n
  · rw [if_pos h, hr h]
    have : (0 : EReal) < (degree s n : EReal) := by exact_mod_cast h
    simp [this, Idealize.ShloMosaic.Scalar.select]
  · rw [if_neg h]
    have : ¬ (0 : EReal) < (degree s n : EReal) := by exact_mod_cast h
    simp [this, Idealize.ShloMosaic.Scalar.select]

end Cert.Proof.Graph
-- ==== Proof.KernelValue.lean ====
/- What the two kernels compute, read at an index over the extended reals, as the mathematics of Graph. -/
module

public import proofs.«01_k».proof.Proof.Arrays
public import proofs.«01_k».proof.Proof.Graph
public import Idealize.ShloMosaic.Lib.MatmulPlain
public import Idealize.ShloMosaic.Lib.Pipeline.Value

@[expose] public section

set_option maxRecDepth 16384

noncomputable section

namespace Cert.Proof.Val

open scoped BigOperators
open Idealize.ShloMosaic hiding ix1 ix2 ix3 eq_ix1 eq_ix2 eq_ix3
open Idealize.ShloMosaic.ValueIdx (ix1 ix2 ix3 eq_ix1 eq_ix2)
open Cert.KernelIdeal Cert.KernelIdeal.Gen
open VecWindow (window put)
open Cert.Proof.Graph
open Cert.Proof.Fold
open Cert.Proof.Run (headRows)

/-- Row `g` of node `v`'s block, column `h`, of a 512-row array. -/
def cell (v : Fin 16) (g : Fin 32) (h : Fin 128) : S512x128.Idx :=
  ix2 (⟨32 * v.val + g.val, by have := v.isLt; have := g.isLt; omega⟩ : Fin 512) h

/-- A node's block of rows, read at a row and a column. -/
theorem rows_apply (A : FVec Ideal S512x128 .f32) (v : Fin 16) (g : Fin 32) (h : Fin 128) :
    rows (F := Ideal) A v (ix2 g h) = A (cell v g h) := by
  refine congrArg A (funext fun a => Fin.ext ?_)
  match a with
  | ⟨0, _⟩ => show 32 * v.val + 1 * g.val = 32 * v.val + g.val; omega
  | ⟨1, _⟩ => show 0 + 1 * h.val = h.val; omega

/-! ### The edge weights -/

/-- For each node and edge, whether the edge's word names the node. -/
def hot (w : IVec S1x32 32) : FVec Ideal S16x32 .f32 :=
  sitofp .f32 (extui 32 (cmpi .eq (broadcastTo S16x32 w broadcasts_S1x32_S16x32) (iota .tc S16x32 32 [0] iota_S16x32_d0_w32)) natLt_1_32)

/-- For each node, one over the square root of the number of edges that name it. -/
def roots (o : FVec Ideal S16x32 .f32) : FVec Ideal S16x1 .f32 :=
  have c : FVec Ideal S16x1 .f32 := shapeCast S16x1 (multiReduction .add [1] S16 o 0x00000000#32 reduces_S16x32_S16 (.inl rfl) rfl) shapeCasts_S16_S16x1
  select (cmpf .ogt c (broadcast S16x1 (Scalar.ofBits .f32 0x00000000#32))) (rsqrt c) (broadcast S16x1 (Scalar.ofBits .f32 0x00000000#32))

/-- For each edge, the entry of `q` of the node that `o` has it name. -/
def pick (o : FVec Ideal S16x32 .f32) (q : FVec Ideal S16x1 .f32) : FVec Ideal S1x32 .f32 :=
  shapeCast S1x32 (multiReduction .add [0] S32 (mulf o (broadcastTo S16x32 q broadcasts_S16x1_S16x32)) 0x00000000#32 reduces_S16x32_S32 (.inl rfl) rfl) shapeCasts_S32_S1x32

/-- The edge weights are made of those three. -/
theorem weights_eq (v0 v1 : IVec S1x32 32) : k0_pay3 (F := Ideal) v0 v1
    = subf (broadcast S1x32 (Scalar.ofBits .f32 0x00000000#32)) (mulf (pick (hot v0) (roots (hot v0))) (pick (hot v1) (roots (hot v0)))) := rfl

/-- Whether a word names a node, as a number. -/
theorem hot_word {w : BitVec 32} {m : Fin 16} (h : w.toNat = m.val) (n : Fin 16) :
    ((((IntOp.cmpi .eq w (BitVec.ofNat 32 n.val)).setWidth 32).toInt : ℝ) : EReal) = ((if m = n then 1 else 0 : ℝ) : EReal) := by
  have hw : w = BitVec.ofNat 32 m.val := BitVec.eq_of_toNat_eq (by rw [BitVec.toNat_ofNat]; have := m.isLt; omega)
  have e : ∀ m n : Fin 16, ((IntOp.cmpi .eq (BitVec.ofNat 32 m.val) (BitVec.ofNat 32 n.val)).setWidth 32).toInt = if m = n then 1 else 0 := by
    decide
  rw [hw, e]
  split <;> simp

variable {x : IVec S2x32 32} {s d : Fin 32 → Fin 16}

/-- The table of a row of words that are `m`. -/
theorem hot_apply (w : IVec S1x32 32) (m : Fin 32 → Fin 16) (hw : ∀ e, (w (ix2 (0 : Fin 1) e)).toNat = (m e).val) (n : Fin 16) (e : Fin 32) :
    hot w (ix2 n e) = ((if m e = n then 1 else 0 : ℝ) : EReal) := by
  have b : broadcastTo S16x32 w broadcasts_S1x32_S16x32 (ix2 n e) = w (ix2 (0 : Fin 1) e) :=
    broadcastTo_apply _ _ _ _ fun a => by
      match a with
      | ⟨0, _⟩ => rfl
      | ⟨1, _⟩ => rfl
  have i : iota .tc S16x32 32 [0] iota_S16x32_d0_w32 (ix2 n e) = BitVec.ofNat 32 n.val := by
    show BitVec.ofNat 32 (0 * 16 + n.val) = _
    rw [Nat.zero_mul, Nat.zero_add]
  rw [← hot_word (hw e) n, ← b, ← i]
  rfl

/-- The reciprocal roots at node `n`. -/
theorem roots_apply (o : FVec Ideal S16x32 .f32) (ho : ∀ n e, o (ix2 n e) = ((if s e = n then 1 else 0 : ℝ) : EReal)) (n : Fin 16) :
    roots o (ix2 n (0 : Fin 1)) = (invRoot s n : EReal) := by
  have c : shapeCast S16x1 (multiReduction .add [1] S16 o 0x00000000#32 reduces_S16x32_S16 (.inl rfl) rfl) shapeCasts_S16_S16x1 (ix2 n (0 : Fin 1))
      = (degree s n : EReal) := by
    rw [shapeCast_apply (k := ix1 n) (hk := by
      rw [Shape.rowMajor_val_one, Shape.rowMajor_val_two]; show n.val = n.val * 1 + 0; omega)]
    refine (Ideal.multiReduction_add_single _ _ _ _ _ _).trans ?_
    unfold degree
    rw [← coe_sum]
    refine Finset.sum_congr rfl fun e _ => ?_
    rw [← ho n e]
    exact congrArg o (eq_ix2 _)
  have z : (Scalar.ofBits .f32 0x00000000#32 : Ideal .f32) = (0 : EReal) := Ideal.ofBits_zero_f32
  refine Eq.trans (b := Scalar.select (Ideal.cmp .ogt (degree s n : EReal) 0) (Ideal.rsqrt (degree s n : EReal)) 0) ?_
    (pick_invRoot s n _ fun h => ?_)
  · rw [← c, ← z]; rfl
  · have := h.ne'
    exact (if_neg (not_lt.2 h.le)).trans (if_neg this)

/-- A choice of the named node's entry, at edge `e`. -/
theorem pick_apply (o : FVec Ideal S16x32 .f32) (q : FVec Ideal S16x1 .f32) (m : Fin 32 → Fin 16) (r : Fin 16 → ℝ)
    (ho : ∀ n e, o (ix2 n e) = ((if m e = n then 1 else 0 : ℝ) : EReal)) (hq : ∀ n, q (ix2 n (0 : Fin 1)) = (r n : EReal)) (e : Fin 32) :
    pick o q (ix2 (0 : Fin 1) e) = (r (m e) : EReal) := by
  unfold pick
  rw [shapeCast_apply (k := ix1 e) (hk := by
    rw [Shape.rowMajor_val_one, Shape.rowMajor_val_two]; show e.val = 0 * 32 + e.val; omega)]
  refine (Ideal.multiReduction_add_single _ _ _ _ _ _).trans ?_
  have t : ∀ n : Fin 16, (mulf o (broadcastTo S16x32 q broadcasts_S16x1_S16x32)) (ix2 n e) = ((if m e = n then r n else 0 : ℝ) : EReal) := fun n => by
    have b : broadcastTo S16x32 q broadcasts_S16x1_S16x32 (ix2 n e) = q (ix2 n (0 : Fin 1)) :=
      broadcastTo_apply _ _ _ _ fun a => by
        match a with
        | ⟨0, _⟩ => rfl
        | ⟨1, _⟩ => rfl
    refine Eq.trans (b := o (ix2 n e) * broadcastTo S16x32 q broadcasts_S16x1_S16x32 (ix2 n e)) rfl ?_
    rw [b, ho, hq, ← EReal.coe_mul]
    congr 1
    split <;> simp
  refine (Finset.sum_congr rfl fun n _ => (congrArg _ (eq_ix2 _)).trans (t n)).trans ?_
  refine (coe_sum (Finset.univ : Finset (Fin 16)) fun n => if m e = n then r n else 0).trans (congrArg _ ?_)
  exact (Finset.sum_ite_eq Finset.univ (m e) r).trans (if_pos (Finset.mem_univ _))

/-- The weight of edge `e`. -/
theorem norm_apply (hx : Words (F := Ideal) x s d) (e : Fin 32) : normOf (F := Ideal) x (ix2 (0 : Fin 1) e) = (weight s d e : EReal) := by
  have w0 : ∀ e : Fin 32, ((window x ![0, 0] S1x32.size inb_S2x32_S1x32_0_0 : IVec S1x32 32) (ix2 (0 : Fin 1) e)).toNat = (s e).val := fun e => by
    refine (congrArg (fun i => (x i).toNat) (funext fun a => Fin.ext ?_)).trans (hx e).1
    match a with
    | ⟨0, _⟩ => rfl
    | ⟨1, _⟩ => show 0 + 1 * e.val = e.val; omega
  have w1 : ∀ e : Fin 32, ((window x ![1, 0] S1x32.size inb_S2x32_S1x32_1_0 : IVec S1x32 32) (ix2 (0 : Fin 1) e)).toNat = (d e).val := fun e => by
    refine (congrArg (fun i => (x i).toNat) (funext fun a => Fin.ext ?_)).trans (hx e).2
    match a with
    | ⟨0, _⟩ => rfl
    | ⟨1, _⟩ => show 0 + 1 * e.val = e.val; omega
  have h0 := hot_apply _ s w0
  have h1 := hot_apply _ d w1
  have q := roots_apply _ h0
  have a := pick_apply _ _ s _ h0 q e
  have b := pick_apply _ _ d _ h1 q e
  unfold normOf
  rw [weights_eq]
  refine Eq.trans (b := (Ideal.ofBits .f32 0x00000000#32 : EReal) - _ * _) rfl ?_
  rw [Ideal.ofBits_zero_f32, a, b]
  unfold weight
  rw [EReal.coe_neg, EReal.coe_mul, zero_sub]

/-! ### The messages and the sums of blocks -/

/-- What one edge adds to a cell. -/
def adds (s d : Fin 32 → Fin 16) (n : FVec Ideal S1x32 .f32) (W : FVec Ideal S512x128 .f32) (v : Fin 16) (g : Fin 32) (h : Fin 128) (e : Fin 32) : EReal :=
  if s e = v then n (ix2 (0 : Fin 1) e) * W (cell (d e) g h) else 0

/-- One edge's update, at a cell. -/
theorem edgeUpd_apply (n : FVec Ideal S1x32 .f32) (W A : FVec Ideal S512x128 .f32) (e : Fin 32) (v : Fin 16) (g : Fin 32) (h : Fin 128) :
    edgeUpd (F := Ideal) s d n W A e (cell v g h) = A (cell v g h) + adds s d n W v g h e := by
  unfold edgeUpd put adds
  by_cases hv : s e = v
  · subst hv
    have hin : ∀ a : Fin S512x128.rank, (![32 * (s e).val, 0] : Fin 2 → ℕ) a ≤ (cell (s e) g h a).val
        ∧ (cell (s e) g h a).val < (![32 * (s e).val, 0] : Fin 2 → ℕ) a + S32x128.size a := fun a => by
      match a with
      | ⟨0, _⟩ => show 32 * (s e).val ≤ 32 * (s e).val + g.val ∧ 32 * (s e).val + g.val < 32 * (s e).val + 32; have := g.isLt; omega
      | ⟨1, _⟩ => show 0 ≤ h.val ∧ h.val < 0 + 128; have := h.isLt; omega
    rw [dif_pos hin, if_pos rfl]
    have loc : (Rect.unitLocal (s := S512x128) (off := ![32 * (s e).val, 0]) (size := S32x128.size) (cell (s e) g h) hin : S32x128.Idx) = ix2 g h := by
      funext a
      refine Fin.ext ?_
      match a with
      | ⟨0, _⟩ => show 32 * (s e).val + g.val - 32 * (s e).val = g.val; omega
      | ⟨1, _⟩ => show h.val - 0 = h.val; omega
    refine (congrArg _ loc).trans ?_
    unfold edgeVal
    rw [shapeCast_self]
    have b : broadcastTo S32x128 (extractStridedSlice S1x1 ![0, e.val] n (slices_weight e)) broadcasts_S1x1_S32x128 (ix2 g h) = n (ix2 (0 : Fin 1) e) := by
      rw [broadcastTo_apply (k := ix2 (0 : Fin 1) (0 : Fin 1)) (hk := fun a => by
        match a with
        | ⟨0, _⟩ => rfl
        | ⟨1, _⟩ => rfl)]
      exact extractStridedSlice_apply _ _ _ _ _ fun a => by
        match a with
        | ⟨0, _⟩ => rfl
        | ⟨1, _⟩ => rfl
    rw [← b, ← rows_apply A, ← rows_apply W]
    rfl
  · have hout : ¬ ∀ a : Fin S512x128.rank, (![32 * (s e).val, 0] : Fin 2 → ℕ) a ≤ (cell v g h a).val
        ∧ (cell v g h a).val < (![32 * (s e).val, 0] : Fin 2 → ℕ) a + S32x128.size a := fun hall => by
      have h0 : 32 * (s e).val ≤ 32 * v.val + g.val ∧ 32 * v.val + g.val < 32 * (s e).val + 32 := hall 0
      have := g.isLt
      exact hv (Fin.ext (by omega))
    rw [dif_neg hout, if_neg hv, add_zero]

/-- The edges of a list in turn, at a cell. -/
theorem edgeUpds_apply (n : FVec Ideal S1x32 .f32) (W : FVec Ideal S512x128 .f32) (v : Fin 16) (g : Fin 32) (h : Fin 128) (l : List (Fin 32)) :
    ∀ A : FVec Ideal S512x128 .f32, l.foldl (edgeUpd (F := Ideal) s d n W) A (cell v g h) = A (cell v g h) + (l.map (adds s d n W v g h)).sum := by
  induction l with
  | nil => exact fun A => (add_zero _).symm
  | cons e l ih =>
    intro A
    rw [List.foldl_cons, ih, edgeUpd_apply, List.map_cons, List.sum_cons, add_assoc]

/-- The finished scratch at a cell. -/
theorem messages_apply (hx : Words (F := Ideal) x s d) (W : FVec Ideal S512x128 .f32) (v : Fin 16) (g : Fin 32) (h : Fin 128) :
    messages (F := Ideal) x s d W (cell v g h) = ∑ e, if s e = v then (weight s d e : EReal) * W (cell (d e) g h) else 0 := by
  have z : k0_pay4 (F := Ideal) (cell v g h) = 0 := Ideal.ofBits_zero_f32
  unfold messages
  rw [edgeUpds_apply, z, zero_add, show edges = List.finRange 32 by decide, ← Fin.sum_univ_def]
  refine Finset.sum_congr rfl fun e _ => ?_
  unfold adds
  rw [norm_apply hx]

/-- The node blocks of a list added to a start. -/
theorem adds_apply (W : FVec Ideal S512x128 .f32) (g : Fin 32) (h : Fin 128) (l : List (Fin 16)) :
    ∀ A : FVec Ideal S32x128 .f32, l.foldl (fun a u => addf a (rows (F := Ideal) W u)) A (ix2 g h) = A (ix2 g h) + (l.map fun u => W (cell u g h)).sum := by
  induction l with
  | nil => exact fun A => (add_zero _).symm
  | cons u l ih =>
    intro A
    rw [List.foldl_cons, ih, List.map_cons, List.sum_cons, ← add_assoc, ← rows_apply W]
    rfl

/-- The sum of the node blocks. -/
theorem blockSum_apply (W : FVec Ideal S512x128 .f32) (g : Fin 32) (h : Fin 128) :
    blockSum (F := Ideal) W (ix2 g h) = ∑ v, W (cell v g h) := by
  have z : zero32 (F := Ideal) (ix2 g h) = 0 := Ideal.ofBits_zero_f32
  unfold blockSum
  rw [adds_apply, z, zero_add, show nodes = List.finRange 16 by decide, ← Fin.sum_univ_def]

/-! ### The folded weight and bias, and the head -/

/-- The folded weight at row `200 v + t`. -/
theorem weight_apply (W0 W1 : FVec Ideal S200x32 .f32) (W A : FVec Ideal S512x128 .f32) (v : Fin 16) (t : Fin 200) (h : Fin 128) (hq : 200 * v.val + t.val < 3200) :
    folded (F := Ideal) W0 W1 W A (ix2 (⟨200 * v.val + t.val, hq⟩ : Fin 3200) h)
      = (∑ g, W0 (ix2 t g) * W (cell v g h)) + ∑ g, W1 (ix2 t g) * A (cell v g h) := by
  have ht := t.isLt
  have ev : (⟨(200 * v.val + t.val) / 200, by omega⟩ : Fin 16) = v := Fin.ext (by show (200 * v.val + t.val) / 200 = v.val; omega)
  have et : (⟨(200 * v.val + t.val) % 200, Nat.mod_lt _ (by decide)⟩ : Fin 200) = t := Fin.ext (by show (200 * v.val + t.val) % 200 = t.val; omega)
  refine Eq.trans (b := nodeVal (F := Ideal) W0 W1 (rows W v) (rows A v) (ix2 t h)) ?_ ?_
  · show nodeVal (F := Ideal) W0 W1 (rows W ⟨(200 * v.val + t.val) / 200, _⟩) (rows A ⟨(200 * v.val + t.val) / 200, _⟩) (ix2 (⟨(200 * v.val + t.val) % 200, _⟩ : Fin 200) h) = _
    rw [ev, et]
  · have p : ∀ (L : FVec Ideal S200x32 .f32) (R : FVec Ideal S512x128 .f32),
        FloatOps.matmul (DotDims.plain 200 32 128) none L (rows (F := Ideal) R v) (constant S200x128 .f32 0x00000000#32) (ix2 t h) = ∑ g, L (ix2 t g) * R (cell v g h) := fun L R => by
      rw [Ideal.matmul_plain_apply]
      refine (congrArg (· + _) Ideal.ofBits_zero_f32).trans ((zero_add _).trans ?_)
      exact Finset.sum_congr rfl fun g _ => congrArg (L (ix2 t g) * ·) (rows_apply R v g h)
    rw [← p W0 W, ← p W1 A]
    rfl

/-- The folded bias at column `h`. -/
theorem bias_apply (c : FVec Ideal S32 .f32) (W : FVec Ideal S512x128 .f32) (b : FVec Ideal S128 .f32) (h : Fin 128) :
    biasOut (F := Ideal) c W b (ix2 (0 : Fin 1) h) = (∑ g, c (ix1 g) * ∑ v, W (cell v g h)) + b (ix1 h) := by
  have e : shapeCast S1x128 b shapeCasts_S128_S1x128 (ix2 (0 : Fin 1) h) = b (ix1 h) :=
    shapeCast_apply _ _ _ _ (by rw [Shape.rowMajor_val_one, Shape.rowMajor_val_two]; show h.val = 0 * 128 + h.val; omega)
  have l : ∀ g : Fin 32, shapeCast S1x32 c shapeCasts_S32_S1x32 (ix2 (0 : Fin 1) g) = c (ix1 g) := fun g =>
    shapeCast_apply _ _ _ _ (by rw [Shape.rowMajor_val_one, Shape.rowMajor_val_two]; show g.val = 0 * 32 + g.val; omega)
  have p : FloatOps.matmul (DotDims.plain 1 32 128) none (shapeCast S1x32 c shapeCasts_S32_S1x32) (blockSum (F := Ideal) W) (constant S1x128 .f32 0x00000000#32) (ix2 (0 : Fin 1) h)
      = ∑ g, c (ix1 g) * ∑ v, W (cell v g h) := by
    rw [Ideal.matmul_plain_apply]
    refine (congrArg (· + _) Ideal.ofBits_zero_f32).trans ((zero_add _).trans ?_)
    exact Finset.sum_congr rfl fun g _ => congrArg₂ (· * ·) (l g) (blockSum_apply W g h)
  rw [← p, ← e]
  rfl

/-- The head's result at row `r`. -/
theorem headRows_apply (X : FVec Ideal S4096x3200 .f32) (G : FVec Ideal S3200x128 .f32) (b : FVec Ideal S1x128 .f32) (w : FVec Ideal S128x1 .f32) (q : FVec Ideal S1x1 .f32) (r : Fin 4096) :
    headRows (F := Ideal) X G b w q (ix2 r (0 : Fin 1))
      = head (fun h => (∑ k, X (ix2 r k) * G (ix2 k h)) + b (ix2 (0 : Fin 1) h)) (fun h => w (ix2 h (0 : Fin 1))) (q (ix2 (0 : Fin 1) (0 : Fin 1))) := by
  have hr := r.isLt
  unfold headRows
  generalize hX : (fun z : S512x3200.Idx => X (ix2 (⟨512 * ((ix2 r (0 : Fin 1) 0 : Fin 4096).val / 512) + (z 0).val, _⟩ : Fin 4096) (z 1))) = Y
  have hY : ∀ k : Fin 3200, Y (ix2 (⟨r.val % 512, Nat.mod_lt _ (by decide)⟩ : Fin 512) k) = X (ix2 r k) := fun k => by
    rw [← hX]
    refine congrArg X (funext fun a => Fin.ext ?_)
    match a with
    | ⟨0, _⟩ => show 512 * (r.val / 512) + r.val % 512 = r.val; omega
    | ⟨1, _⟩ => rfl
  show k1_pay1 (F := Ideal) Y G b w q (ix2 (⟨r.val % 512, _⟩ : Fin 512) (0 : Fin 1)) = _
  generalize (⟨r.val % 512, Nat.mod_lt _ (by decide)⟩ : Fin 512) = i at hY ⊢
  have lat : ∀ h : Fin 128, addf (FloatOps.matmul (DotDims.plain 512 3200 128) none Y G (constant S512x128 .f32 0x00000000#32)) (broadcastTo S512x128 b broadcasts_S1x128_S512x128) (ix2 i h)
      = (∑ k, X (ix2 r k) * G (ix2 k h)) + b (ix2 (0 : Fin 1) h) := fun h => by
    refine congrArg₂ (· + ·) ?_ ?_
    · rw [Ideal.matmul_plain_apply]
      refine (congrArg (· + _) Ideal.ofBits_zero_f32).trans ((zero_add _).trans ?_)
      exact Finset.sum_congr rfl fun k _ => congrArg (· * G (ix2 k h)) (hY k)
    · exact broadcastTo_apply _ _ _ _ fun a => by
        match a with
        | ⟨0, _⟩ => rfl
        | ⟨1, _⟩ => rfl
  have e : k1_pay1 (F := Ideal) Y G b w q = logistic (addf (FloatOps.matmul (DotDims.plain 512 128 1) none
      (maximumf (addf (FloatOps.matmul (DotDims.plain 512 3200 128) none Y G (constant S512x128 .f32 0x00000000#32)) (broadcastTo S512x128 b broadcasts_S1x128_S512x128))
        (broadcast S512x128 (Scalar.ofBits .f32 0x00000000#32))) w (constant S512x1 .f32 0x00000000#32)) (broadcastTo S512x1 q broadcasts_S1x1_S512x1)) := by
    unfold k1_pay1
    simp only [shapeCast_self]
    rfl
  rw [e]
  refine congrArg Ideal.logistic (congrArg₂ (· + ·) ?_ ?_)
  · rw [Ideal.matmul_plain_apply]
    refine (congrArg (· + _) Ideal.ofBits_zero_f32).trans ((zero_add _).trans ?_)
    refine Finset.sum_congr rfl fun h _ => congrArg (· * w (ix2 h (0 : Fin 1))) ?_
    exact congrArg₂ max (lat h) Ideal.ofBits_zero_f32
  · exact broadcastTo_apply _ _ _ _ fun a => by
      match a with
      | ⟨0, _⟩ => rfl
      | ⟨1, _⟩ => rfl

end Cert.Proof.Val

end
-- ==== Proof.ReferenceEdges.lean ====
/- The reference's reads and sums by edge: which element a gather by the edge list reads, and which updates a scatter by
   it adds up. -/
module

public import proofs.«01_k».proof.Proof.Gen.ReferenceIdeal.Read
public import proofs.«01_k».proof.Proof.Graph
public import Idealize.ShloMosaic.Lib.ValueIdx
public import Idealize.ShloMosaic.Lib.ValueIdxRank1
public import Idealize.ShloMosaic.Lib.Routing.OpsPair
public import Idealize.ShloMosaic.Lib.StableHlo.Predicate

@[expose] public section

set_option maxRecDepth 16384

noncomputable section

namespace Cert.Proof.Ref

open scoped BigOperators
open Idealize.ShloMosaic Idealize.ShloMosaic.ValueIdx
open Cert.ReferenceIdeal Cert.ReferenceIdeal.Gen Cert.ReferenceIdeal.Read

/-- The signed reading of a word that names one of the sixteen nodes. -/
theorem toInt_word {w : BitVec 32} {n : Fin 16} (h : w.toNat = n.val) : w.toInt = (n.val : Int) := by
  rw [BitVec.toInt_eq_toNat_cond, h]
  have := n.isLt
  rw [if_pos (by omega)]

/-- Update `e` of the degree count lands on the node that its word names. -/
theorem lands_degree (idx : IVec S32x1 32) (e : Fin 32) (n : Fin 16) :
    scatter_S16_S32x1_S32_n_0_0_1.resultIdx? (ix1 e) idx = some (ix1 n) ↔ (idx (ix2 e (0 : Fin 1))).toInt = (n.val : Int) := by
  rw [Routing.resultIdx?_eq_some]
  have hw : scatter_S16_S32x1_S32_n_0_0_1.window (ix1 e) 0 = 0 := by
    unfold ScatterDims.window
    exact dif_neg (by decide)
  have hs : scatter_S16_S32x1_S32_n_0_0_1.start (ix1 e) idx 0 = (idx (ix2 e (0 : Fin 1))).toInt := by
    unfold ScatterDims.start
    rw [dif_pos (show (0 : Fin S16.rank) ∈ scatter_S16_S32x1_S32_n_0_0_1.scatterDimsToOperandDims from List.mem_singleton.2 rfl)]
    refine congrArg (fun i => (idx i).toInt) (funext fun b => ?_)
    match b with
    | ⟨0, _⟩ => rfl
    | ⟨1, _⟩ => rfl
  constructor
  · intro h
    have h0 := h 0
    rw [hw, hs] at h0
    simpa using h0
  · intro h a
    obtain rfl : a = 0 := Subsingleton.elim (α := Fin 1) _ _
    rw [hw, hs, h]
    simp

/-- Update `(b, e, t)` of the message sum lands on row `b`, on the node that word `e` names, at feature `t`. -/
theorem lands_message (idx : IVec S32x1 32) (b b' : Fin 4096) (e : Fin 32) (t t' : Fin 200) (n : Fin 16) :
    scatter_S4096x16x200_S32x1_S4096x32x200_02_1_1_1.resultIdx? (ix3 b e t) idx = some (ix3 b' n t')
      ↔ b = b' ∧ t = t' ∧ (idx (ix2 e (0 : Fin 1))).toInt = (n.val : Int) := by
  rw [Routing.resultIdx?_eq_some]
  have hw0 : scatter_S4096x16x200_S32x1_S4096x32x200_02_1_1_1.window (ix3 b e t) 0 = b.val := by
    unfold ScatterDims.window
    rw [dif_pos (by decide)]
    rfl
  have hw1 : scatter_S4096x16x200_S32x1_S4096x32x200_02_1_1_1.window (ix3 b e t) 1 = 0 := by
    unfold ScatterDims.window
    exact dif_neg (by decide)
  have hw2 : scatter_S4096x16x200_S32x1_S4096x32x200_02_1_1_1.window (ix3 b e t) 2 = t.val := by
    unfold ScatterDims.window
    rw [dif_pos (by decide)]
    rfl
  have hs0 : scatter_S4096x16x200_S32x1_S4096x32x200_02_1_1_1.start (ix3 b e t) idx 0 = 0 := by
    unfold ScatterDims.start
    exact dif_neg (by decide)
  have hs1 : scatter_S4096x16x200_S32x1_S4096x32x200_02_1_1_1.start (ix3 b e t) idx 1 = (idx (ix2 e (0 : Fin 1))).toInt := by
    unfold ScatterDims.start
    rw [dif_pos (show (1 : Fin S4096x16x200.rank) ∈ scatter_S4096x16x200_S32x1_S4096x32x200_02_1_1_1.scatterDimsToOperandDims from List.mem_singleton.2 rfl)]
    refine congrArg (fun i => (idx i).toInt) (funext fun b => ?_)
    match b with
    | ⟨0, _⟩ => rfl
    | ⟨1, _⟩ => rfl
  have hs2 : scatter_S4096x16x200_S32x1_S4096x32x200_02_1_1_1.start (ix3 b e t) idx 2 = 0 := by
    unfold ScatterDims.start
    exact dif_neg (by decide)
  constructor
  · intro h
    have h0 := h 0
    have h1 := h 1
    have h2 := h 2
    rw [hw0, hs0] at h0
    rw [hw1, hs1] at h1
    rw [hw2, hs2] at h2
    refine ⟨Fin.ext ?_, Fin.ext ?_, ?_⟩
    · have : (0 : Int) + (b.val : Int) = (b'.val : Int) := h0
      omega
    · have : (0 : Int) + (t.val : Int) = (t'.val : Int) := h2
      omega
    · have : (idx (ix2 e (0 : Fin 1))).toInt + ((0 : Nat) : Int) = (n.val : Int) := h1
      omega
  · rintro ⟨rfl, rfl, h⟩ a
    match a with
    | ⟨0, _⟩ => exact (congrArg₂ (fun (p : Int) (q : Nat) => p + (q : Int)) hs0 hw0).trans (zero_add _)
    | ⟨1, _⟩ => exact (congrArg₂ (fun (p : Int) (q : Nat) => p + (q : Int)) (hs1.trans h) hw1).trans (add_zero _)
    | ⟨2, _⟩ => exact (congrArg₂ (fun (p : Int) (q : Nat) => p + (q : Int)) hs2 hw2).trans (zero_add _)

/-- A gather of node values by the edge list's words reads the value of the node that the word names. -/
theorem gather_node {α : Type} (y : S16.Idx → α) (idx : IVec S32x1 32) (e : Fin 32) (n : Fin 16)
    (h : (idx (ix2 e (0 : Fin 1))).toNat = n.val) :
    Host.gather gather_S16_S32x1_S32_n_0_n_n_0_1_1 y idx (ix1 e) = y (ix1 n) := by
  have hi := toInt_word h
  unfold Host.gather
  refine congrArg y (funext fun a => Fin.ext ?_)
  obtain rfl : a = 0 := Subsingleton.elim (α := Fin 1) _ _
  show gather_S16_S32x1_S32_n_0_n_n_0_1_1.start (ix1 e) idx 0 + gather_S16_S32x1_S32_n_0_n_n_0_1_1.batchCoord (ix1 e) 0
      + gather_S16_S32x1_S32_n_0_n_n_0_1_1.offCoord (ix1 e) 0 = n.val
  rw [GatherDims.batchCoord_eq_zero _ _ _ (by decide), GatherDims.offCoord_eq_zero _ _ _ (by decide)]
  unfold GatherDims.start
  rw [dif_pos (show (0 : Fin S16.rank) ∈ gather_S16_S32x1_S32_n_0_n_n_0_1_1.startIndexMap from List.mem_singleton.2 rfl)]
  have hsi : gather_S16_S32x1_S32_n_0_n_n_0_1_1.siIdx (ix1 e) ⟨List.idxOf (0 : Fin S16.rank) gather_S16_S32x1_S32_n_0_n_n_0_1_1.startIndexMap,
      List.idxOf_lt_length_iff.2 (List.mem_singleton.2 rfl)⟩ = ix2 e (0 : Fin 1) := by
    funext b
    match b with
    | ⟨0, _⟩ => rfl
    | ⟨1, _⟩ => rfl
  rw [hsi, hi]
  show min ((n.val : Int).toNat) (16 - 1) + 0 + 0 = n.val
  have := n.isLt
  omega

/-- A gather of node features by the edge list's words reads row `b`, the node that the word names, feature `t`. -/
theorem gather_feature {α : Type} (y : S4096x16x200.Idx → α) (idx : IVec S32x1 32) (b : Fin 4096) (e : Fin 32) (t : Fin 200) (n : Fin 16)
    (h : (idx (ix2 e (0 : Fin 1))).toNat = n.val) :
    Host.gather gather_S4096x16x200_S32x1_S4096x32x200_02_1_n_n_1_1_40961200 y idx (ix3 b e t) = y (ix3 b n t) := by
  have hi := toInt_word h
  unfold Host.gather
  refine congrArg y (funext fun a => Fin.ext ?_)
  show gather_S4096x16x200_S32x1_S4096x32x200_02_1_n_n_1_1_40961200.start (ix3 b e t) idx a
      + gather_S4096x16x200_S32x1_S4096x32x200_02_1_n_n_1_1_40961200.batchCoord (ix3 b e t) a
      + gather_S4096x16x200_S32x1_S4096x32x200_02_1_n_n_1_1_40961200.offCoord (ix3 b e t) a = (ix3 b n t a).val
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (by decide), dif_pos (by decide)]
    exact Nat.zero_add _
  · rw [GatherDims.offCoord_eq_zero _ _ _ (by decide)]
    unfold GatherDims.start
    rw [dif_pos (show (1 : Fin S4096x16x200.rank) ∈ gather_S4096x16x200_S32x1_S4096x32x200_02_1_n_n_1_1_40961200.startIndexMap from List.mem_singleton.2 rfl)]
    have hsi : gather_S4096x16x200_S32x1_S4096x32x200_02_1_n_n_1_1_40961200.siIdx (ix3 b e t)
        ⟨List.idxOf (1 : Fin S4096x16x200.rank) gather_S4096x16x200_S32x1_S4096x32x200_02_1_n_n_1_1_40961200.startIndexMap,
          List.idxOf_lt_length_iff.2 (List.mem_singleton.2 rfl)⟩ = ix2 e (0 : Fin 1) := by
      funext b
      match b with
      | ⟨0, _⟩ => rfl
      | ⟨1, _⟩ => rfl
    refine (congrArg (fun i => min (idx i).toInt.toNat (16 - 1) + 0 + 0) hsi).trans ?_
    rw [hi]
    show min ((n.val : Int).toNat) (16 - 1) + 0 + 0 = n.val
    have := n.isLt
    omega
  · unfold GatherDims.start GatherDims.offCoord
    rw [dif_neg (by decide), dif_pos (by decide)]
    exact Nat.zero_add _

end Cert.Proof.Ref
-- ==== Proof.ReferenceValue.lean ====
/- The reference's result, read at an index, as the mathematics of Graph. -/
module

public import proofs.«01_k».proof.Proof.ReferenceEdges
public import Idealize.ShloMosaic.Lib.IdealHost
public import Idealize.ShloMosaic.Lib.Pointwise.Index

@[expose] public section

set_option maxRecDepth 16384

noncomputable section

namespace Cert.Proof.Ref

open scoped BigOperators
open Idealize.ShloMosaic hiding ix1 ix2 ix3 eq_ix1 eq_ix2 eq_ix3
open Idealize.ShloMosaic.ValueIdx
open Cert.ReferenceIdeal Cert.ReferenceIdeal.Gen Cert.ReferenceIdeal.Read
open Cert.Proof.Graph

/-- The edge list's words are `s` and `d`. -/
def Names (x8 : S2x32.Idx → BitVec 32) (s d : Fin 32 → Fin 16) : Prop :=
  ∀ e : Fin 32, (x8 (ix2 (0 : Fin 2) e)).toNat = (s e).val ∧ (x8 (ix2 (1 : Fin 2) e)).toNat = (d e).val

/-- A word that is not negative is kept by the wrap of negative positions. -/
theorem wrap_word {w : BitVec 32} {n : Fin 16} (h : w.toNat = n.val) :
    Scalar.select (IntOp.cmpi .slt w 0#32) (IntOp.addi w 16#32) w = w := by
  have hi := toInt_word h
  have : IntOp.cmpi .slt w 0#32 = 0#1 := by
    rcases (by decide : ∀ b : BitVec 1, b = 0#1 ∨ b = 1#1) (IntOp.cmpi .slt w 0#32) with h0 | h1
    · exact h0
    · have := IntOp.cmpi_slt.1 h1
      rw [hi] at this
      have e0 : (0#32 : BitVec 32).toInt = 0 := by decide
      omega
  rw [this]
  rfl

section

variable (x0 : S4096x16x200.Idx → EReal) (x1 x2 : S200x32.Idx → EReal) (x3 : S32.Idx → EReal) (x4 : S512x128.Idx → EReal)
  (x5 : S128.Idx → EReal) (x6 : S128x1.Idx → EReal) (x7 : S1.Idx → EReal) (x8 : S2x32.Idx → BitVec 32)

/-- The row of sources at edge `e`. -/
theorem src_apply (e : Fin 32) : val_main_v1 (F := Ideal) x8 (ix1 e) = x8 (ix2 (0 : Fin 2) e) := by
  rw [val_main_v1_apply, val_main_v0_apply]
  refine congrArg x8 (funext fun a => Fin.ext ?_)
  match a with
  | ⟨0, _⟩ => rfl
  | ⟨1, _⟩ => exact Nat.mod_eq_of_lt e.isLt

/-- The row of destinations at edge `e`. -/
theorem dst_apply (e : Fin 32) : val_main_v3 (F := Ideal) x8 (ix1 e) = x8 (ix2 (1 : Fin 2) e) := by
  rw [val_main_v3_apply, val_main_v2_apply]
  refine congrArg x8 (funext fun a => Fin.ext ?_)
  match a with
  | ⟨0, _⟩ => rfl
  | ⟨1, _⟩ => exact Nat.mod_eq_of_lt e.isLt

variable {x8} {s d : Fin 32 → Fin 16} (hx : Names x8 s d)

include hx

/-- The sources that the degree count is indexed by. -/
theorem v10_apply (e : Fin 32) : (val_main_v10 (F := Ideal) x8 (ix2 e (0 : Fin 1))).toNat = (s e).val := by
  refine (congrArg BitVec.toNat ?_).trans (hx e).1
  rw [val_main_v10_apply]
  refine Eq.trans ?_ ((wrap_word (w := val_main_v1 (F := Ideal) x8 (ix1 e)) (by rw [src_apply]; exact (hx e).1)).trans (src_apply x8 e))
  exact congrArg (val_main_v9 (F := Ideal) x8) (eq_ix1 _)

/-- The sources that the weights' first factor is gathered by. -/
theorem v24_apply (e : Fin 32) : (val_main_v24 (F := Ideal) x8 (ix2 e (0 : Fin 1))).toNat = (s e).val := v10_apply hx e

/-- The destinations that the weights' second factor is gathered by. -/
theorem v31_apply (e : Fin 32) : (val_main_v31 (F := Ideal) x8 (ix2 e (0 : Fin 1))).toNat = (d e).val := by
  refine (congrArg BitVec.toNat ?_).trans (hx e).2
  rw [val_main_v31_apply]
  refine Eq.trans ?_ ((wrap_word (w := val_main_v3 (F := Ideal) x8 (ix1 e)) (by rw [dst_apply]; exact (hx e).2)).trans (dst_apply x8 e))
  exact congrArg (val_main_v30 (F := Ideal) x8) (eq_ix1 _)

/-- The sources that the features are gathered by. -/
theorem v41_apply (e : Fin 32) : (val_main_v41 (F := Ideal) x8 (ix2 e (0 : Fin 1))).toNat = (s e).val := v10_apply hx e

/-- The destinations that the messages are summed by. -/
theorem v51_apply (e : Fin 32) : (val_main_v51 (F := Ideal) x8 (ix2 e (0 : Fin 1))).toNat = (d e).val := v31_apply hx e

/-- The degree count at node `n`. -/
theorem v12_apply (n : Fin 16) : val_main_v12 (F := Ideal) x8 (ix1 n) = (degree s n : EReal) := by
  have e : val_main_v12 (F := Ideal) x8 (ix1 n) = val_main_v4 (F := Ideal) (ix1 n)
      + ∑ j ∈ Finset.univ.filter (fun j => scatter_S16_S32x1_S32_n_0_0_1.resultIdx? j (val_main_v10 (F := Ideal) x8) = some (ix1 n)),
        val_main_v11 (F := Ideal) j := rfl
  have z : val_main_v4 (F := Ideal) (ix1 n) = 0 := by rw [val_main_v4_apply]; exact Ideal.ofBits_zero_f32
  have o : ∀ j, val_main_v11 (F := Ideal) j = ((1 : ℝ) : EReal) := fun j => by rw [val_main_v11_apply]; exact Ideal.ofBits_one_f32
  rw [e, z, zero_add, Finset.sum_filter, Idealize.ShloMosaic.sum_idx1]
  unfold degree
  rw [← coe_sum]
  refine Finset.sum_congr rfl fun k _ => ?_
  rw [o, ← coe_ite]
  refine if_congr ((lands_degree _ k n).trans ?_) rfl rfl
  rw [toInt_word (v10_apply hx k)]
  exact ⟨fun h => Fin.ext (by omega), fun h => by rw [h]⟩

/-- One over the square root of the degree at node `n`. -/
theorem v18_apply (n : Fin 16) : val_main_v18 (F := Ideal) x8 (ix1 n) = (invRoot s n : EReal) := by
  have z : val_main_v13 (F := Ideal) (ix1 n) = 0 := by rw [val_main_v13_apply]; exact Ideal.ofBits_zero_f32
  have z' : val_main_call0_v1 (F := Ideal) (ix1 n) = 0 := by rw [val_main_call0_v1_apply]; exact Ideal.ofBits_zero_f32
  have o : val_main_v16 (F := Ideal) (ix1 n) = 1 := by rw [val_main_v16_apply]; exact Ideal.ofBits_one_f32
  have q : val_main_v17 (F := Ideal) x8 (ix1 n) = Ideal.div 1 (Ideal.sqrt (degree s n : EReal)) := by
    rw [val_main_v17_apply, val_main_v15_apply, v12_apply hx, o]; rfl
  have g : val_main_v14 (F := Ideal) x8 (ix1 n) = Ideal.cmp .ogt (degree s n : EReal) 0 := by
    rw [val_main_v14_apply, v12_apply hx, z]; rfl
  rw [val_main_v18_apply, q, g, z']
  refine pick_invRoot s n _ fun h => ?_
  have hq : 0 < Real.sqrt (degree s n) := Real.sqrt_pos.2 h
  have e : Ideal.sqrt (degree s n : EReal) = (Real.sqrt (degree s n) : EReal) := if_neg (not_lt.2 h.le)
  rw [e]
  unfold Ideal.div
  rw [if_neg (by exact_mod_cast hq.ne'), one_mul, EReal.coe_inv]

/-- The weight of edge `e`. -/
theorem v34_apply (e : Fin 32) : val_main_v34 (F := Ideal) x8 (ix1 e) = (weight s d e : EReal) := by
  have a : val_main_v25 (F := Ideal) x8 (ix1 e) = (invRoot s (s e) : EReal) :=
    (gather_node _ _ e (s e) (v24_apply hx e)).trans (v18_apply hx (s e))
  have b : val_main_v32 (F := Ideal) x8 (ix1 e) = (invRoot s (d e) : EReal) :=
    (gather_node _ _ e (d e) (v31_apply hx e)).trans (v18_apply hx (d e))
  rw [val_main_v34_apply, val_main_v33_apply, a, b]
  unfold weight
  rw [EReal.coe_neg, EReal.coe_mul]
  rfl

/-- The message of edge `e`, row `b`, feature `t`. -/
theorem v44_apply (b : Fin 4096) (e : Fin 32) (t : Fin 200) :
    val_main_v44 (F := Ideal) x0 x8 (ix3 b e t) = (weight s d e : EReal) * x0 (ix3 b (s e) t) := by
  have a : val_main_v43 (F := Ideal) x8 (ix3 b e t) = (weight s d e : EReal) := by
    rw [val_main_v43_apply, val_main_v35_apply]
    exact (congrArg (val_main_v34 (F := Ideal) x8) (eq_ix1 _)).trans (v34_apply hx e)
  rw [val_main_v44_apply, a]
  exact congrArg ((weight s d e : EReal) * ·) (gather_feature x0 _ b e t (s e) (v41_apply hx e))

/-- The messages summed at node `n`. -/
theorem v52_apply (b : Fin 4096) (n : Fin 16) (t : Fin 200) :
    val_main_v52 (F := Ideal) x0 x8 (ix3 b n t) = ∑ e, if d e = n then (weight s d e : EReal) * x0 (ix3 b (s e) t) else 0 := by
  have e : val_main_v52 (F := Ideal) x0 x8 (ix3 b n t) = val_main_v45 (F := Ideal) (ix3 b n t)
      + ∑ j ∈ Finset.univ.filter (fun j => scatter_S4096x16x200_S32x1_S4096x32x200_02_1_1_1.resultIdx? j (val_main_v51 (F := Ideal) x8) = some (ix3 b n t)),
        val_main_v44 (F := Ideal) x0 x8 j := rfl
  have z : val_main_v45 (F := Ideal) (ix3 b n t) = 0 := by rw [val_main_v45_apply]; exact Ideal.ofBits_zero_f32
  rw [e, z, zero_add, Finset.sum_filter, Idealize.ShloMosaic.sum_idx3, Finset.sum_eq_single b]
  · refine Finset.sum_congr rfl fun k _ => ?_
    rw [Finset.sum_eq_single t]
    · refine if_congr ((lands_message _ b b k t t n).trans ?_) (v44_apply x0 hx b k t) rfl
      rw [toInt_word (v51_apply hx k)]
      exact ⟨fun h => Fin.ext (by have := h.2.2; omega), fun h => ⟨rfl, rfl, by rw [h]⟩⟩
    · intro t' _ ht
      exact if_neg fun h => ht ((lands_message _ b b k t' t n).1 h).2.1
    · intro h; exact absurd (Finset.mem_univ _) h
  · intro b' _ hb
    refine Finset.sum_eq_zero fun k _ => Finset.sum_eq_zero fun t' _ => ?_
    exact if_neg fun h => hb ((lands_message _ b' b k t' t n).1 h).1
  · intro h; exact absurd (Finset.mem_univ _) h

/-- The graph convolution at row `b`, node `v`, channel `g`. -/
theorem v58_apply (b : Fin 4096) (v : Fin 16) (g : Fin 32) :
    val_main_v58 (F := Ideal) x0 x1 x2 x3 x8 (ix3 b v g)
      = ((∑ t, x0 (ix3 b v t) * x1 (ix2 t g))
          + ∑ t, (∑ e, if d e = v then (weight s d e : EReal) * x0 (ix3 b (s e) t) else 0) * x2 (ix2 t g)) + x3 (ix1 g) := by
  have e : val_main_v57 (F := Ideal) x3 (ix3 b v g) = x3 (ix1 g) := by
    rw [val_main_v57_apply, val_main_v56_apply]; exact congrArg x3 (eq_ix1 _)
  have p : val_main_v53 (F := Ideal) x0 x1 (ix3 b v g) = ∑ t, x0 (ix3 b v t) * x1 (ix2 t g) := by
    rw [val_main_v53_apply]
    exact Finset.sum_congr rfl fun t _ => congrArg₂ (· * ·) (congrArg x0 (eq_ix3 _)) (congrArg x1 (eq_ix2 _))
  have q : val_main_v54 (F := Ideal) x0 x2 x8 (ix3 b v g)
      = ∑ t, (∑ e, if d e = v then (weight s d e : EReal) * x0 (ix3 b (s e) t) else 0) * x2 (ix2 t g) := by
    rw [val_main_v54_apply]
    exact Finset.sum_congr rfl fun t _ => congrArg₂ (· * ·)
      ((congrArg (val_main_v52 (F := Ideal) x0 x8) (eq_ix3 _)).trans (v52_apply x0 hx b v t)) (congrArg x2 (eq_ix2 _))
  rw [val_main_v58_apply, val_main_v55_apply, e, p, q]
  rfl

/-- The hidden layer before its positive part, at row `b`, unit `h`. -/
theorem v63_apply (b : Fin 4096) (h : Fin 128) :
    val_main_v63 (F := Ideal) x0 x1 x2 x3 x4 x5 x8 (ix2 b h)
      = (∑ v : Fin 16, ∑ g : Fin 32, (((∑ t, x0 (ix3 b v t) * x1 (ix2 t g))
          + ∑ t, (∑ e, if d e = v then (weight s d e : EReal) * x0 (ix3 b (s e) t) else 0) * x2 (ix2 t g)) + x3 (ix1 g))
            * x4 (ix2 ⟨32 * v.val + g.val, by have := v.isLt; have := g.isLt; omega⟩ h)) + x5 (ix1 h) := by
  have e : val_main_v62 (F := Ideal) x5 (ix2 b h) = x5 (ix1 h) := by
    rw [val_main_v62_apply, val_main_v61_apply]; exact congrArg x5 (eq_ix1 _)
  rw [val_main_v63_apply, e, val_main_v60_apply, sum_blocks (m := 16) (n := 32) rfl]
  refine congrArg (· + x5 (ix1 h)) (Finset.sum_congr rfl fun v _ => Finset.sum_congr rfl fun g _ => ?_)
  refine congrArg₂ (· * ·) ?_ (congrArg x4 (eq_ix2 _))
  rw [val_main_v59_apply, ← v58_apply x0 x1 x2 x3 hx b v g]
  refine congrArg (val_main_v58 (F := Ideal) x0 x1 x2 x3 x8) (funext fun a => Fin.ext ?_)
  have hb := b.isLt
  have hv := v.isLt
  have hg := g.isLt
  match a with
  | ⟨0, _⟩ => show (b.val * 512 + (32 * v.val + g.val)) / 512 = b.val; omega
  | ⟨1, _⟩ => show (b.val * 512 + (32 * v.val + g.val)) / 32 % 16 = v.val; omega
  | ⟨2, _⟩ => show (b.val * 512 + (32 * v.val + g.val)) % 32 = g.val; omega

omit hx in
/-- The result at row `b`, from the hidden layer's values. -/
theorem v74_apply (b : Fin 4096) :
    val_main_v74 (F := Ideal) x0 x1 x2 x3 x4 x5 x6 x7 x8 (ix2 b (0 : Fin 1))
      = head (fun h => val_main_v63 (F := Ideal) x0 x1 x2 x3 x4 x5 x8 (ix2 b h)) (fun h => x6 (ix2 h (0 : Fin 1))) (x7 (ix1 (0 : Fin 1))) := by
  have o : val_main_v73 (F := Ideal) (ix2 b (0 : Fin 1)) = 1 := by rw [val_main_v73_apply]; exact Ideal.ofBits_one_f32
  have o' : val_main_v71 (F := Ideal) (ix2 b (0 : Fin 1)) = 1 := by rw [val_main_v71_apply]; exact Ideal.ofBits_one_f32
  have e : val_main_v67 (F := Ideal) x7 (ix2 b (0 : Fin 1)) = x7 (ix1 (0 : Fin 1)) := by
    rw [val_main_v67_apply, val_main_v66_apply]; exact congrArg x7 (eq_ix1 _)
  have p : val_main_v65 (F := Ideal) x0 x1 x2 x3 x4 x5 x6 x8 (ix2 b (0 : Fin 1))
      = ∑ h : Fin 128, max (val_main_v63 (F := Ideal) x0 x1 x2 x3 x4 x5 x8 (ix2 b h)) 0 * x6 (ix2 h (0 : Fin 1)) := by
    rw [val_main_v65_apply]
    refine Finset.sum_congr rfl fun h _ => congrArg₂ (· * ·) ?_ (congrArg x6 (eq_ix2 _))
    rw [val_main_v64_apply]
    have z : val_main_call1_v0 (F := Ideal) (lidx_main_v65 (ix2 b (0 : Fin 1)) h) = 0 := by
      rw [val_main_call1_v0_apply]; exact Ideal.ofBits_zero_f32
    rw [z]
    exact congrArg (fun i => max (val_main_v63 (F := Ideal) x0 x1 x2 x3 x4 x5 x8 i) 0) (eq_ix2 _)
  rw [val_main_v74_apply, o, val_main_v72_apply, o', val_main_v70_apply, val_main_v69_apply, val_main_v68_apply, p, e]
  rfl

end

end Cert.Proof.Ref
-- ==== Proof.FinitePre.lean ====
/- The precondition of the comparison: the edge list names nodes, and the arrays that the fold multiplies are finite. -/
module

public import proofs.«01_k».proof.Proof.Frames
public import proofs.«01_k».proof.Proof.Gen.Pre_finite_and_in_range

@[expose] public section

set_option maxRecDepth 16384

noncomputable section

namespace Cert.Proof.Pre

open Idealize.ShloMosaic
open Cert.Pre_finite_and_in_range Cert.Pre_finite_and_in_range.Gen
open Cert.Proof.Fold (InRange)

/-- A decided bit that is one is a fact. -/
theorem of_bit {P : Prop} [Decidable P] (h : BitVec.ofBool (decide P) = 1#1) : P := by
  by_contra n
  rw [decide_eq_false n] at h
  exact absurd h (by decide)

/-- An extended real strictly between the two infinities is a real. -/
theorem real_of_test (x : Ideal .f32)
    (h : IntOp.andi (FloatOps.cmpf .ogt x (FloatOps.ofBits .f32 0xFF800000#32)) (FloatOps.cmpf .olt x (FloatOps.ofBits .f32 0x7F800000#32)) = 1#1) :
    ∃ r : ℝ, x = (r : EReal) := by
  obtain ⟨h0, h1⟩ := IntOp.andi_eq_one.1 h
  have b : (FloatOps.ofBits .f32 0xFF800000#32 : Ideal .f32) = (⊥ : EReal) := by
    show Ideal.ofBits .f32 0xFF800000#32 = _
    simp [Ideal.ofBits, Ideal.ieee]
  have t : (FloatOps.ofBits .f32 0x7F800000#32 : Ideal .f32) = (⊤ : EReal) := by
    show Ideal.ofBits .f32 0x7F800000#32 = _
    simp [Ideal.ofBits, Ideal.ieee]
  rw [b] at h0
  rw [t] at h1
  have h0 : (⊥ : EReal) < x := of_bit h0
  have h1 : x < (⊤ : EReal) := of_bit h1
  exact ⟨EReal.toReal x, (EReal.coe_toReal h1.ne h0.ne').symm⟩

instance : Subsingleton S_.Idx := ⟨fun a b => funext fun i => i.elim0⟩

/-- A whole array that passes the test is an array of reals. -/
theorem reals_of_test {s : Shape} {dims : Fin S_.rank → Fin s.rank} (hb : S_.BroadcastsInDim s dims) (x : FVec Ideal s .f32)
    (h : ∀ i, andi (cmpf .ogt x (broadcastInDim s dims hb (constant S_ .f32 0xFF800000#32)))
      (cmpf .olt x (broadcastInDim s dims hb (constant S_ .f32 0x7F800000#32))) i = 1#1) :
    ∃ r : s.Idx → ℝ, ∀ i, x i = (r i : EReal) := by
  choose r hr using fun i => real_of_test (x i) (h i)
  exact ⟨r, hr⟩

/-- The precondition, read: the range of the edge list, and the reals that the five arrays hold. -/
theorem pre_read (x0 : FVec Ideal S4096x16x200 .f32) (x1 x2 : FVec Ideal S200x32 .f32) (x3 : FVec Ideal S32 .f32)
    (x4 : FVec Ideal S512x128 .f32) (x5 : FVec Ideal S128 .f32) (x6 : FVec Ideal S128x1 .f32) (x7 : FVec Ideal S1 .f32) (x8 : IVec S2x32 32)
    (h : fn (F := Ideal) x0 x1 x2 x3 x4 x5 x6 x7 x8 = fun _ => 1#1) :
    InRange (F := Ideal) x8 ∧ (∃ r : S4096x16x200.Idx → ℝ, ∀ i, x0 i = (r i : EReal)) ∧ (∃ r : S200x32.Idx → ℝ, ∀ i, x1 i = (r i : EReal))
      ∧ (∃ r : S200x32.Idx → ℝ, ∀ i, x2 i = (r i : EReal)) ∧ (∃ r : S32.Idx → ℝ, ∀ i, x3 i = (r i : EReal))
      ∧ ∃ r : S512x128.Idx → ℝ, ∀ i, x4 i = (r i : EReal) := by
  have h := congrFun h (fun i => i.elim0)
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨h, h0⟩ := IntOp.andi_eq_one.1 h
  exact ⟨fun r e => Run.word_lt _ (Host.reduce_andi_all _ _ _ _ _ h (ValueIdx.ix2 r e)),
    reals_of_test bcast_S_S4096x16x200 x0 fun i => Host.reduce_andi_all _ _ _ _ _ h0 i,
    reals_of_test bcast_S_S200x32 x1 fun i => Host.reduce_andi_all _ _ _ _ _ h1 i,
    reals_of_test bcast_S_S200x32 x2 fun i => Host.reduce_andi_all _ _ _ _ _ h2 i,
    reals_of_test bcast_S_S32 x3 fun i => Host.reduce_andi_all _ _ _ _ _ h3 i,
    reals_of_test bcast_S_S512x128 x4 fun i => Host.reduce_andi_all _ _ _ _ _ h4 i⟩

end Cert.Proof.Pre

end
-- ==== Proof.Algebraic.lean ====
/- The kernel program and the reference end with the same result. -/
module

public import proofs.«01_k».proof.Proof.KernelValue
public import proofs.«01_k».proof.Proof.ReferenceValue
public import proofs.«01_k».proof.Proof.FinitePre

@[expose] public section

set_option maxRecDepth 16384

noncomputable section

namespace Cert.Proof.Alg

open scoped BigOperators
open Idealize.ShloMosaic hiding ix1 ix2 ix3 eq_ix1 eq_ix2 eq_ix3
open Idealize.ShloMosaic.TcCoe
open Idealize.ShloMosaic.ValueIdx (ix1 ix2 ix3 eq_ix1 eq_ix2)
open Idealize.SL.Sem
open Cert.KernelIdeal Cert.KernelIdeal.Gen
open Cert.Proof.Graph
open Cert.Proof.Fold (InRange srcOf dstOf words_of_inRange weightOut biasOut)
open Cert.Proof.Run
open Cert.Proof.Val

/-- The features flattened, read at row `r` and position `200 v + t`. -/
theorem flat_apply (x0 : FVec Ideal S4096x16x200 .f32) (r : Fin 4096) (v : Fin 16) (t : Fin 200) (hq : 200 * v.val + t.val < 3200) :
    shapeCast S4096x3200 x0 shapeCasts_S4096x16x200_S4096x3200 (ix2 r (⟨200 * v.val + t.val, hq⟩ : Fin 3200)) = x0 (ix3 r v t) :=
  shapeCast_apply _ _ _ _ (by
    rw [Shape.rowMajor_val_three, Shape.rowMajor_val_two]
    show (r.val * 16 + v.val) * 200 + t.val = r.val * 3200 + (200 * v.val + t.val)
    omega)

section

variable (x0 : FVec Ideal S4096x16x200 .f32) (x1 x2 : FVec Ideal S200x32 .f32) (x3 : FVec Ideal S32 .f32)
    (x4 : FVec Ideal S512x128 .f32) (x5 : FVec Ideal S128 .f32) (x6 : FVec Ideal S128x1 .f32) (x7 : FVec Ideal S1 .f32) (x8 : IVec S2x32 32)

/-- What the kernel program makes of its arguments. -/
def result : FVec Ideal S4096x1 .f32 :=
  headRows (F := Ideal) (shapeCast S4096x3200 x0 shapeCasts_S4096x16x200_S4096x3200) (weightOut (F := Ideal) x8 x1 x2 x4) (biasOut (F := Ideal) x3 x4 x5) x6
    (shapeCast S1x1 x7 shapeCasts_S1_S1x1)

/-- On arguments that pass the precondition, it is what the reference makes of them. -/
theorem result_eq (h : @Cert.Pre_finite_and_in_range.fn Cert.Pre_finite_and_in_range.Gen.facts Ideal _ x0 x1 x2 x3 x4 x5 x6 x7 x8 = fun _ => 1#1) :
    result x0 x1 x2 x3 x4 x5 x6 x7 x8 = Cert.ReferenceIdeal.Read.val_main_v74 (F := Ideal) x0 x1 x2 x3 x4 x5 x6 x7 x8 := by
  obtain ⟨hr, ⟨y0, h0⟩, ⟨y1, h1⟩, ⟨y2, h2⟩, ⟨y3, h3⟩, ⟨y4, h4⟩⟩ := Pre.pre_read x0 x1 x2 x3 x4 x5 x6 x7 x8 h
  have hx := words_of_inRange hr
  generalize hs : srcOf (F := Ideal) x8 = s at hx
  generalize hd : dstOf (F := Ideal) x8 = d at hx
  have hx' : Ref.Names x8 s d := hx
  funext y
  obtain ⟨r, rfl⟩ : ∃ r : Fin 4096, y = ix2 r (0 : Fin 1) := ⟨y 0, (eq_ix2 y).trans (congrArg _ (Fin.ext (by have : (y 1).val < 1 := (y 1).isLt; show (y 1).val = 0; omega)))⟩
  unfold result
  rw [headRows_apply]
  refine Eq.trans ?_ (Ref.v74_apply x0 x1 x2 x3 x4 x5 x6 x7 (x8 := x8) r).symm
  have e7 : shapeCast S1x1 x7 shapeCasts_S1_S1x1 (ix2 (0 : Fin 1) (0 : Fin 1)) = x7 (ix1 (0 : Fin 1)) :=
    shapeCast_apply _ _ _ _ (by rw [Shape.rowMajor_val_one, Shape.rowMajor_val_two]; rfl)
  rw [e7]
  refine congrArg (fun l => head l _ _) (funext fun k => ?_)
  refine Eq.trans ?_ (Ref.v63_apply x0 x1 x2 x3 x4 x5 hx' r k).symm
  rw [sum_blocks (m := 16) (n := 200) rfl, bias_apply]
  have key := fold_eq_ereal s d (weight s d) (fun v t => y0 (ix3 r v t)) (fun t g => y1 (ix2 t g)) (fun t g => y2 (ix2 t g)) (fun g => y3 (ix1 g))
    (fun v g => y4 (cell v g k)) (x5 (ix1 k))
  simp only [← h0, ← h1, ← h2, ← h3, ← h4] at key
  refine Eq.trans (congrArg (· + _) ?_) key
  refine Finset.sum_congr rfl fun v _ => Finset.sum_congr rfl fun t _ => congrArg₂ (· * ·) (flat_apply x0 r v t _) ?_
  unfold weightOut
  rw [weight_apply, hs, hd]
  refine congrArg (_ + ·) (Finset.sum_congr rfl fun g _ => congrArg (_ * ·) ?_)
  exact messages_apply hx x4 v g k

end

variable (m : (ℓ : Loc nD τ sig) → Buf (Elt Ideal) ℓ) (c : Dev nD)

/-- The features are flattened before the launches. -/
theorem V1_features : (V1 m c main_v0 : S4096x3200.Idx → EReal)
    = shapeCast S4096x3200 (m ((c : Thread nD τ).loc main_arg0) : S4096x16x200.Idx → EReal) shapeCasts_S4096x16x200_S4096x3200 := by
  simp only [V1, hostOps0]
  after_results_simp
  rfl

/-- The head's bias is made a one-by-one array before the launches. -/
theorem V1_headBias : (V1 m c main_v1 : S1x1.Idx → EReal)
    = shapeCast S1x1 (m ((c : Thread nD τ).loc main_arg7) : S1.Idx → EReal) shapeCasts_S1_S1x1 := by
  simp only [V1, hostOps0]
  after_results_simp
  rfl

/-- The kernel program's result array, from its arguments. -/
theorem X3_result : (X3 m c main_v3 : S4096x1.Idx → EReal)
    = result (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) := by
  have k : ∀ r : Ref sig .tc, r ∉ hostOps0_W → V1 m c r = m ((c : Thread nD τ).loc r) := fun r h => (V1_of m c r h).trans rfl
  have g : (X2 m c main_v2_0 : S3200x128.Idx → EReal) = weightOut (F := Ideal) (m ((c : Thread nD τ).loc main_arg8)) (m ((c : Thread nD τ).loc main_arg1))
      (m ((c : Thread nD τ).loc main_arg2)) (m ((c : Thread nD τ).loc main_arg4)) := by
    refine (X2_weight m c).trans ((weight_arr (V1 m) c).trans ?_)
    rw [ei0_eq, w0_eq, w1_eq, fcw_eq, k main_arg8 (by decide), k main_arg1 (by decide), k main_arg2 (by decide), k main_arg4 (by decide)]
  have b : (X2 m c main_v2_1 : S1x128.Idx → EReal) = biasOut (F := Ideal) (m ((c : Thread nD τ).loc main_arg3)) (m ((c : Thread nD τ).loc main_arg4))
      (m ((c : Thread nD τ).loc main_arg5)) := by
    refine (X2_bias m c).trans ((bias_arr (V1 m) c).trans ?_)
    rw [cheb_eq, fcw_eq, fcb_eq, k main_arg3 (by decide), k main_arg4 (by decide), k main_arg5 (by decide)]
  have x : (X2 m c main_v0 : S4096x3200.Idx → EReal) = _ := (X2_of m c main_v0 (by decide) (by decide)).trans (V1_features m c)
  have q : (X2 m c main_v1 : S1x1.Idx → EReal) = _ := (X2_of m c main_v1 (by decide) (by decide)).trans (V1_headBias m c)
  have w : (X2 m c main_arg6 : S128x1.Idx → EReal) = _ := (X2_of m c main_arg6 (by decide) (by decide)).trans (k main_arg6 (by decide))
  refine (X3_out m c).trans ((head_arr (X2 m) c).trans ?_)
  rw [x, g, b, w, q]
  rfl

/-- The edge list's range, from the precondition of the comparison. -/
theorem inRange_of_pre (hp : @Cert.Pre_KernelIdeal_finite_and_in_range Cert.Pre_finite_and_in_range.Gen.facts m) :
    InRange (F := Ideal) (m ((c : Thread nD τ).loc main_arg8) : S2x32.Idx → BitVec 32) := (Pre.pre_read _ _ _ _ _ _ _ _ _ (hp c)).1

/-- The frame of the kernel program under the precondition of the comparison. -/
theorem frame_KernelIdeal_finite : @Cert.quiescent_KernelIdeal_pre_finite_and_in_range Cert.KernelIdeal.Gen.facts Cert.Pre_finite_and_in_range.Gen.facts :=
  fun m g hp => run_kept m g fun c => inRange_of_pre m c hp

/-- The frame of the reference under the precondition of the comparison. -/
theorem frame_ReferenceIdeal_finite : @Cert.quiescent_ReferenceIdeal_pre_finite_and_in_range Cert.ReferenceIdeal.Gen.facts Cert.Pre_finite_and_in_range.Gen.facts :=
  fun m g _ => frame_ReferenceIdeal m g trivial

set_option backward.isDefEq.respectTransparency.types false in
/-- THE COMPARISON: run on the same arguments, the kernel program and the reference end with the same result. -/
theorem algebraic : @Cert.algebraic_KernelIdeal_ReferenceIdeal_pre_finite_and_in_range Cert.KernelIdeal.Gen.facts Cert.ReferenceIdeal.Gen.facts
    Cert.Pre_finite_and_in_range.Gen.facts := by
  intro m g m' g' hp ha
  refine ⟨fun c => X3 m c main_v3, ?_, ?_⟩
  · refine (θ_run _ _ _).mono (fun r hr c => ?_) (run m g fun c => inRange_of_arg m c (inRange_of_pre m c hp))
    have k := hr.1 c
    exact ⟨k main_v3 (by decide), (k main_arg0 (by decide)).trans (X3_kept m c main_arg0 (by decide)),
      (k main_arg1 (by decide)).trans (X3_kept m c main_arg1 (by decide)),
      (k main_arg2 (by decide)).trans (X3_kept m c main_arg2 (by decide)),
      (k main_arg3 (by decide)).trans (X3_kept m c main_arg3 (by decide)),
      (k main_arg4 (by decide)).trans (X3_kept m c main_arg4 (by decide)),
      (k main_arg5 (by decide)).trans (X3_kept m c main_arg5 (by decide)),
      (k main_arg6 (by decide)).trans (X3_kept m c main_arg6 (by decide)),
      (k main_arg7 (by decide)).trans (X3_kept m c main_arg7 (by decide)),
      (k main_arg8 (by decide)).trans (X3_kept m c main_arg8 (by decide))⟩
  · refine (θ_run Cert.ReferenceIdeal.defs _ _).mono (fun r hr c => ⟨(hr c).1.trans ?_, (hr c).2⟩) (Cert.ReferenceIdeal.Value.run (F := Ideal) m' g')
    obtain ⟨a0, a1, a2, a3, a4, a5, a6, a7, a8⟩ := ha c
    refine (Cert.ReferenceIdeal.Read.val_main_v74_eq m' c).trans ?_
    rw [a0, a1, a2, a3, a4, a5, a6, a7, a8]
    exact (result_eq _ _ _ _ _ _ _ _ _ (hp c)).symm.trans (X3_result m c).symm

end Cert.Proof.Alg

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts, Cert.Pre_edges_in_range.Gen.facts,
    Cert.Pre_finite_and_in_range.Gen.facts, Run.frame_Kernel, Run.frame_KernelIdeal, Alg.frame_KernelIdeal_finite, Run.frame_ReferenceIdeal,
    Alg.frame_ReferenceIdeal_finite, trivial, Alg.algebraic⟩

end Cert.Proof

end
